-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routing_finite [hPre_routing_finite : Cert.Pre_routing_finite.Facts] (m : (ℓ : Loc Cert.KernelIdeal.nD Cert.KernelIdeal.τ Cert.KernelIdeal.sig) → Buf (Elt Ideal) ℓ) : Prop :=
  ∀ c : Dev Cert.KernelIdeal.nD,
    (Cert.Pre_routing_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routing_finite [hPre_routing_finite : Cert.Pre_routing_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routing_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_routing_finite [hKernelIdeal : Cert.KernelIdeal.Facts] [hPre_routing_finite : Cert.Pre_routing_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routing_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_routing_finite [hReferenceIdeal : Cert.ReferenceIdeal.Facts] [hPre_routing_finite : Cert.Pre_routing_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routing_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal_pre_routing_finite [hKernelIdeal : Cert.KernelIdeal.Facts] [hReferenceIdeal : Cert.ReferenceIdeal.Facts] [hPre_routing_finite : Cert.Pre_routing_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routing_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_routing_finite : Cert.Pre_routing_finite.Facts),
    quiescent_Kernel (hKernel := hKernel)
    ∧ quiescent_KernelIdeal (hKernelIdeal := hKernelIdeal)
    ∧ quiescent_KernelIdeal_pre_routing_finite (hKernelIdeal := hKernelIdeal) (hPre_routing_finite := hPre_routing_finite)
    ∧ quiescent_ReferenceIdeal (hReferenceIdeal := hReferenceIdeal)
    ∧ quiescent_ReferenceIdeal_pre_routing_finite (hReferenceIdeal := hReferenceIdeal) (hPre_routing_finite := hPre_routing_finite)
    ∧ preserves_Kernel_KernelIdeal
    ∧ algebraic_KernelIdeal_ReferenceIdeal_pre_routing_finite (hKernelIdeal := hKernelIdeal) (hReferenceIdeal := hReferenceIdeal) (hPre_routing_finite := hPre_routing_finite)
-- ==== Pre_routing_finite.lean ====
abbrev S1024x26 : Shape := ⟨2, ![1024, 26]⟩
abbrev S26x17 : Shape := ⟨2, ![26, 17]⟩
abbrev S26x16x64 : Shape := ⟨3, ![26, 16, 64]⟩
abbrev S26x64 : Shape := ⟨2, ![26, 64]⟩
abbrev S1664x8 : Shape := ⟨2, ![1664, 8]⟩
abbrev S8x1664x512 : Shape := ⟨3, ![8, 1664, 512]⟩
abbrev S8x512 : Shape := ⟨2, ![8, 512]⟩
abbrev S8x512x1664 : Shape := ⟨3, ![8, 512, 1664]⟩
abbrev S8x1664 : Shape := ⟨2, ![8, 1664]⟩
abbrev S2x1664x256 : Shape := ⟨3, ![2, 1664, 256]⟩
abbrev S2x256 : Shape := ⟨2, ![2, 256]⟩
abbrev S2x256x1 : Shape := ⟨3, ![2, 256, 1]⟩
abbrev S2x1 : Shape := ⟨2, ![2, 1]⟩
abbrev S_ : Shape := ⟨0, ![]⟩

class Facts : Prop where
  bcast_S_S26x16x64 : S_.BroadcastsInDim S26x16x64 (![] : Fin 0 → Fin S26x16x64.rank)
  reducesTo_S26x16x64_S_d0_1_2 : S26x16x64.ReducesTo [0, 1, 2] S_
  h_S_ : 0 < S_.numel
  bcast_S_S26x64 : S_.BroadcastsInDim S26x64 (![] : Fin 0 → Fin S26x64.rank)
  reducesTo_S26x64_S_d0_1 : S26x64.ReducesTo [0, 1] S_
  bcast_S_S1664x8 : S_.BroadcastsInDim S1664x8 (![] : Fin 0 → Fin S1664x8.rank)
  reducesTo_S1664x8_S_d0_1 : S1664x8.ReducesTo [0, 1] S_

variable [Facts]

def fn {F : FTy → Type} [FloatOps F] (main_arg0 : FVec F S1024x26 .f32) (main_arg1 : FVec F S26x17 .f32) (main_arg2 : FVec F S26x16x64 .f32) (main_arg3 : FVec F S26x64 .f32) (main_arg4 : FVec F S1664x8 .f32) (main_arg5 : FVec F S8x1664x512 .f32) (main_arg6 : FVec F S8x512 .f32) (main_arg7 : FVec F S8x512x1664 .f32) (main_arg8 : FVec F S8x1664 .f32) (main_arg9 : FVec F S2x1664x256 .f32) (main_arg10 : FVec F S2x256 .f32) (main_arg11 : FVec F S2x256x1 .f32) (main_arg12 : FVec F S2x1 .f32) : IVec S_ 1 :=
  let main_v0 : FVec F S26x16x64 .f32 := Host.absf main_arg2
  let main_cst : FVec F S_ .f32 := constant S_ .f32 0x7F800000#32
  let main_v1 : FVec F S26x16x64 .f32 := broadcastInDim S26x16x64 ![] bcast_S_S26x16x64 main_cst
  let main_v2 : IVec S26x16x64 1 := cmpf .olt main_v0 main_v1
  let main_c : IVec S_ 1 := constantI S_ 1 1#1
  let main_v3 : IVec S_ 1 := (fun x v => Host.reduce IntOp.andi x v reducesTo_S26x16x64_S_d0_1_2 h_S_) main_v2 main_c
  let main_v4 : FVec F S26x64 .f32 := Host.absf main_arg3
  let main_cst_0 : FVec F S_ .f32 := constant S_ .f32 0x7F800000#32
  let main_v5 : FVec F S26x64 .f32 := broadcastInDim S26x64 ![] bcast_S_S26x64 main_cst_0
  let main_v6 : IVec S26x64 1 := cmpf .olt main_v4 main_v5
  let main_c_1 : IVec S_ 1 := constantI S_ 1 1#1
  let main_v7 : IVec S_ 1 := (fun x v => Host.reduce IntOp.andi x v reducesTo_S26x64_S_d0_1 h_S_) main_v6 main_c_1
  let main_v8 : IVec S_ 1 := andi main_v3 main_v7
  let main_v9 : FVec F S1664x8 .f32 := Host.absf main_arg4
  let main_cst_2 : FVec F S_ .f32 := constant S_ .f32 0x7F800000#32
  let main_v10 : FVec F S1664x8 .f32 := broadcastInDim S1664x8 ![] bcast_S_S1664x8 main_cst_2
  let main_v11 : IVec S1664x8 1 := cmpf .olt main_v9 main_v10
  let main_c_3 : IVec S_ 1 := constantI S_ 1 1#1
  let main_v12 : IVec S_ 1 := (fun x v => Host.reduce IntOp.andi x v reducesTo_S1664x8_S_d0_1 h_S_) main_v11 main_c_3
  let main_v13 : IVec S_ 1 := andi main_v8 main_v12
  main_v13
-- ==== Kernel.lean ====
abbrev S1024x26 : Shape := ⟨2, ![1024, 26]⟩
abbrev S26x17 : Shape := ⟨2, ![26, 17]⟩
abbrev S26x16x64 : Shape := ⟨3, ![26, 16, 64]⟩
abbrev S26x64 : Shape := ⟨2, ![26, 64]⟩
abbrev S1664x8 : Shape := ⟨2, ![1664, 8]⟩
abbrev S8x1664x512 : Shape := ⟨3, ![8, 1664, 512]⟩
abbrev S8x512 : Shape := ⟨2, ![8, 512]⟩
abbrev S8x512x1664 : Shape := ⟨3, ![8, 512, 1664]⟩
abbrev S8x1664 : Shape := ⟨2, ![8, 1664]⟩
abbrev S2x1664x256 : Shape := ⟨3, ![2, 1664, 256]⟩
abbrev S2x256 : Shape := ⟨2, ![2, 256]⟩
abbrev S2x256x1 : Shape := ⟨3, ![2, 256, 1]⟩
abbrev S2x1 : Shape := ⟨2, ![2, 1]⟩
abbrev S26x16 : Shape := ⟨2, ![26, 16]⟩
abbrev S1x416 : Shape := ⟨2, ![1, 416]⟩
abbrev S_ : Shape := ⟨0, ![]⟩
abbrev S1x1664 : Shape := ⟨2, ![1, 1664]⟩
abbrev S26x26 : Shape := ⟨2, ![26, 26]⟩
abbrev S26x26x16 : Shape := ⟨3, ![26, 26, 16]⟩
abbrev S26x416 : Shape := ⟨2, ![26, 416]⟩
abbrev S64x64 : Shape := ⟨2, ![64, 64]⟩
abbrev S1x64x1x64 : Shape := ⟨4, ![1, 64, 1, 64]⟩
abbrev S1x64x26x64 : Shape := ⟨4, ![1, 64, 26, 64]⟩
abbrev S64x1664 : Shape := ⟨2, ![64, 1664]⟩
abbrev S416 : Shape := ⟨1, ![416]⟩
abbrev S416x1 : Shape := ⟨2, ![416, 1]⟩
abbrev S1664 : Shape := ⟨1, ![1664]⟩
abbrev S416x1664 : Shape := ⟨2, ![416, 1664]⟩
abbrev S416x64 : Shape := ⟨2, ![416, 64]⟩
abbrev S1024x1664 : Shape := ⟨2, ![1024, 1664]⟩
abbrev S1024x8 : Shape := ⟨2, ![1024, 8]⟩
abbrev S512x26 : Shape := ⟨2, ![512, 26]⟩
abbrev S512x1664 : Shape := ⟨2, ![512, 1664]⟩
abbrev S512x8 : Shape := ⟨2, ![512, 8]⟩
abbrev S512x416 : Shape := ⟨2, ![512, 416]⟩
abbrev S512 : Shape := ⟨1, ![512]⟩
abbrev S512x1 : Shape := ⟨2, ![512, 1]⟩
abbrev S8x1x512 : Shape := ⟨3, ![8, 1, 512]⟩
abbrev S1024x2 : Shape := ⟨2, ![1024, 2]⟩
abbrev S1x1664x512 : Shape := ⟨3, ![1, 1664, 512]⟩
abbrev S1x1x512 : Shape := ⟨3, ![1, 1, 512]⟩
abbrev S1x512x1664 : Shape := ⟨3, ![1, 512, 1664]⟩
abbrev S1024x4096 : Shape := ⟨2, ![1024, 4096]⟩
abbrev S1664x512 : Shape := ⟨2, ![1664, 512]⟩
abbrev S4096x1664 : Shape := ⟨2, ![4096, 1664]⟩
abbrev S1024x512 : Shape := ⟨2, ![1024, 512]⟩
abbrev S1x512 : Shape := ⟨2, ![1, 512]⟩
abbrev S1024 : Shape := ⟨1, ![1024]⟩
abbrev S1024x1 : Shape := ⟨2, ![1024, 1]⟩
abbrev S1x1664x256 : Shape := ⟨3, ![1, 1664, 256]⟩
abbrev S1664x256 : Shape := ⟨2, ![1664, 256]⟩
abbrev S1024x256 : Shape := ⟨2, ![1024, 256]⟩
abbrev S1x256 : Shape := ⟨2, ![1, 256]⟩
abbrev S1x256x1 : Shape := ⟨3, ![1, 256, 1]⟩
abbrev S256x1 : Shape := ⟨2, ![256, 1]⟩
abbrev S1x1 : Shape := ⟨2, ![1, 1]⟩

abbrev nBuf : Space → Nat
  | .hbm => 91
  | .vmem => 32
  | .smem => 0
  | _ => 0

abbrev bufTy : (tb : Table) → Fin (tcTables nBuf tb) → BufTy
  | .hbm, ⟨0, _⟩ => ⟨S1024x26, .f32⟩
  | .hbm, ⟨1, _⟩ => ⟨S26x17, .f32⟩
  | .hbm, ⟨2, _⟩ => ⟨S26x16x64, .f32⟩
  | .hbm, ⟨3, _⟩ => ⟨S26x64, .f32⟩
  | .hbm, ⟨4, _⟩ => ⟨S1664x8, .f32⟩
  | .hbm, ⟨5, _⟩ => ⟨S8x1664x512, .f32⟩
  | .hbm, ⟨6, _⟩ => ⟨S8x512, .f32⟩
  | .hbm, ⟨7, _⟩ => ⟨S8x512x1664, .f32⟩
  | .hbm, ⟨8, _⟩ => ⟨S8x1664, .f32⟩
  | .hbm, ⟨9, _⟩ => ⟨S2x1664x256, .f32⟩
  | .hbm, ⟨10, _⟩ => ⟨S2x256, .f32⟩
  | .hbm, ⟨11, _⟩ => ⟨S2x256x1, .f32⟩
  | .hbm, ⟨12, _⟩ => ⟨S2x1, .f32⟩
  | .hbm, ⟨13, _⟩ => ⟨S26x16, .f32⟩
  | .hbm, ⟨14, _⟩ => ⟨S1x416, .f32⟩
  | .hbm, ⟨15, _⟩ => ⟨S26x16, .f32⟩
  | .hbm, ⟨16, _⟩ => ⟨S26x16, .f32⟩
  | .hbm, ⟨17, _⟩ => ⟨S26x16, .f32⟩
  | .hbm, ⟨18, _⟩ => ⟨S1x416, .f32⟩
  | .hbm, ⟨19, _⟩ => ⟨S_, .f32⟩
  | .hbm, ⟨20, _⟩ => ⟨S1x416, .f32⟩
  | .hbm, ⟨21, _⟩ => ⟨S1x416, .f32⟩
  | .hbm, ⟨22, _⟩ => ⟨S1x1664, .f32⟩
  | .hbm, ⟨23, _⟩ => ⟨S26x26, .i32⟩
  | .hbm, ⟨24, _⟩ => ⟨S26x26, .i32⟩
  | .hbm, ⟨25, _⟩ => ⟨S_, .i32⟩
  | .hbm, ⟨26, _⟩ => ⟨S26x26, .i32⟩
  | .hbm, ⟨27, _⟩ => ⟨S26x26, .i32⟩
  | .hbm, ⟨28, _⟩ => ⟨S26x26, .i1⟩
  | .hbm, ⟨29, _⟩ => ⟨S26x26, .f32⟩
  | .hbm, ⟨30, _⟩ => ⟨S26x26x16, .f32⟩
  | .hbm, ⟨31, _⟩ => ⟨S26x416, .f32⟩
  | .hbm, ⟨32, _⟩ => ⟨S64x64, .i32⟩
  | .hbm, ⟨33, _⟩ => ⟨S64x64, .i32⟩
  | .hbm, ⟨34, _⟩ => ⟨S_, .i32⟩
  | .hbm, ⟨35, _⟩ => ⟨S64x64, .i32⟩
  | .hbm, ⟨36, _⟩ => ⟨S64x64, .i32⟩
  | .hbm, ⟨37, _⟩ => ⟨S64x64, .i1⟩
  | .hbm, ⟨38, _⟩ => ⟨S64x64, .f32⟩
  | .hbm, ⟨39, _⟩ => ⟨S1x64x1x64, .f32⟩
  | .hbm, ⟨40, _⟩ => ⟨S1x64x26x64, .f32⟩
  | .hbm, ⟨41, _⟩ => ⟨S64x1664, .f32⟩
  | .hbm, ⟨42, _⟩ => ⟨S416, .i32⟩
  | .hbm, ⟨43, _⟩ => ⟨S416x1, .i32⟩
  | .hbm, ⟨44, _⟩ => ⟨S_, .i32⟩
  | .hbm, ⟨45, _⟩ => ⟨S_, .i32⟩
  | .hbm, ⟨46, _⟩ => ⟨S416x1, .i32⟩
  | .hbm, ⟨47, _⟩ => ⟨S416x1, .i32⟩
  | .hbm, ⟨48, _⟩ => ⟨S416x1, .i32⟩
  | .hbm, ⟨49, _⟩ => ⟨S_, .i32⟩
  | .hbm, ⟨50, _⟩ => ⟨S416x1, .i32⟩
  | .hbm, ⟨51, _⟩ => ⟨S416x1, .i1⟩
  | .hbm, ⟨52, _⟩ => ⟨S416x1, .i32⟩
  | .hbm, ⟨53, _⟩ => ⟨S416x1, .i32⟩
  | .hbm, ⟨54, _⟩ => ⟨S_, .i32⟩
  | .hbm, ⟨55, _⟩ => ⟨S416x1, .i32⟩
  | .hbm, ⟨56, _⟩ => ⟨S416x1, .i1⟩
  | .hbm, ⟨57, _⟩ => ⟨S416x1, .i1⟩
  | .hbm, ⟨58, _⟩ => ⟨S_, .i32⟩
  | .hbm, ⟨59, _⟩ => ⟨S416x1, .i32⟩
  | .hbm, ⟨60, _⟩ => ⟨S416x1, .i32⟩
  | .hbm, ⟨61, _⟩ => ⟨S416x1, .i32⟩
  | .hbm, ⟨62, _⟩ => ⟨S1664, .i32⟩
  | .hbm, ⟨63, _⟩ => ⟨S1x1664, .i32⟩
  | .hbm, ⟨64, _⟩ => ⟨S_, .i32⟩
  | .hbm, ⟨65, _⟩ => ⟨S_, .i32⟩
  | .hbm, ⟨66, _⟩ => ⟨S1x1664, .i32⟩
  | .hbm, ⟨67, _⟩ => ⟨S1x1664, .i32⟩
  | .hbm, ⟨68, _⟩ => ⟨S1x1664, .i32⟩
  | .hbm, ⟨69, _⟩ => ⟨S_, .i32⟩
  | .hbm, ⟨70, _⟩ => ⟨S1x1664, .i32⟩
  | .hbm, ⟨71, _⟩ => ⟨S1x1664, .i1⟩
  | .hbm, ⟨72, _⟩ => ⟨S1x1664, .i32⟩
  | .hbm, ⟨73, _⟩ => ⟨S1x1664, .i32⟩
  | .hbm, ⟨74, _⟩ => ⟨S_, .i32⟩
  | .hbm, ⟨75, _⟩ => ⟨S1x1664, .i32⟩
  | .hbm, ⟨76, _⟩ => ⟨S1x1664, .i1⟩
  | .hbm, ⟨77, _⟩ => ⟨S1x1664, .i1⟩
  | .hbm, ⟨78, _⟩ => ⟨S_, .i32⟩
  | .hbm, ⟨79, _⟩ => ⟨S1x1664, .i32⟩
  | .hbm, ⟨80, _⟩ => ⟨S1x1664, .i32⟩
  | .hbm, ⟨81, _⟩ => ⟨S1x1664, .i32⟩
  | .hbm, ⟨82, _⟩ => ⟨S416x1664, .i32⟩
  | .hbm, ⟨83, _⟩ => ⟨S416x1664, .i32⟩
  | .hbm, ⟨84, _⟩ => ⟨S416x1664, .i1⟩
  | .hbm, ⟨85, _⟩ => ⟨S416x1664, .f32⟩
  | .hbm, ⟨86, _⟩ => ⟨S416x64, .f32⟩
  | .hbm, ⟨87, _⟩ => ⟨S1024x1664, .bf16⟩
  | .hbm, ⟨88, _⟩ => ⟨S1024x8, .f32⟩
  | .hbm, ⟨89, _⟩ => ⟨S8x1x512, .f32⟩
  | .hbm, ⟨90, _⟩ => ⟨S1024x2, .f32⟩
  | .local _ .vmem, ⟨0, _⟩ => ⟨S512x26, .f32⟩
  | .local _ .vmem, ⟨1, _⟩ => ⟨S512x26, .f32⟩
  | .local _ .vmem, ⟨2, _⟩ => ⟨S26x416, .f32⟩
  | .local _ .vmem, ⟨3, _⟩ => ⟨S1x416, .f32⟩
  | .local _ .vmem, ⟨4, _⟩ => ⟨S1x416, .f32⟩
  | .local _ .vmem, ⟨5, _⟩ => ⟨S416x64, .f32⟩
  | .local _ .vmem, ⟨6, _⟩ => ⟨S64x1664, .f32⟩
  | .local _ .vmem, ⟨7, _⟩ => ⟨S416x1664, .f32⟩
  | .local _ .vmem, ⟨8, _⟩ => ⟨S1x1664, .f32⟩
  | .local _ .vmem, ⟨9, _⟩ => ⟨S1664x8, .f32⟩
  | .local _ .vmem, ⟨10, _⟩ => ⟨S512x1664, .bf16⟩
  | .local _ .vmem, ⟨11, _⟩ => ⟨S512x1664, .bf16⟩
  | .local _ .vmem, ⟨12, _⟩ => ⟨S512x8, .f32⟩
  | .local _ .vmem, ⟨13, _⟩ => ⟨S512x8, .f32⟩
  | .local _ .vmem, ⟨14, _⟩ => ⟨S416x1664, .f32⟩
  | .local _ .vmem, ⟨15, _⟩ => ⟨S1024x1664, .bf16⟩
  | .local _ .vmem, ⟨16, _⟩ => ⟨S1024x8, .f32⟩
  | .local _ .vmem, ⟨17, _⟩ => ⟨S1x1664x512, .f32⟩
  | .local _ .vmem, ⟨18, _⟩ => ⟨S1x1664x512, .f32⟩
  | .local _ .vmem, ⟨19, _⟩ => ⟨S1x1x512, .f32⟩
  | .local _ .vmem, ⟨20, _⟩ => ⟨S1x1x512, .f32⟩
  | .local _ .vmem, ⟨21, _⟩ => ⟨S1x512x1664, .f32⟩
  | .local _ .vmem, ⟨22, _⟩ => ⟨S1x512x1664, .f32⟩
  | .local _ .vmem, ⟨23, _⟩ => ⟨S8x1664, .f32⟩
  | .local _ .vmem, ⟨24, _⟩ => ⟨S2x1664x256, .f32⟩
  | .local _ .vmem, ⟨25, _⟩ => ⟨S2x256, .f32⟩
  | .local _ .vmem, ⟨26, _⟩ => ⟨S2x256x1, .f32⟩
  | .local _ .vmem, ⟨27, _⟩ => ⟨S2x1, .f32⟩
  | .local _ .vmem, ⟨28, _⟩ => ⟨S1024x2, .f32⟩
  | .local _ .vmem, ⟨29, _⟩ => ⟨S1024x4096, .bf16⟩
  | .local _ .vmem, ⟨30, _⟩ => ⟨S1664x512, .bf16⟩
  | .local _ .vmem, ⟨31, _⟩ => ⟨S4096x1664, .bf16⟩
  | _, _ => ⟨S1024x26, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_0 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_1 : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_call0_v5 : Ref sig .tc := ⟨.hbm, 50, rfl⟩
abbrev main_call0_v6 : Ref sig .tc := ⟨.hbm, 51, rfl⟩
abbrev main_call0_v7 : Ref sig .tc := ⟨.hbm, 52, rfl⟩
abbrev main_call0_v8 : Ref sig .tc := ⟨.hbm, 53, rfl⟩
abbrev main_call0_c : Ref sig .tc := ⟨.hbm, 54, rfl⟩
abbrev main_call0_v9 : Ref sig .tc := ⟨.hbm, 55, rfl⟩
abbrev main_call0_v10 : Ref sig .tc := ⟨.hbm, 56, rfl⟩
abbrev main_call0_v11 : Ref sig .tc := ⟨.hbm, 57, rfl⟩
abbrev main_call0_c_0 : Ref sig .tc := ⟨.hbm, 58, rfl⟩
abbrev main_call0_v12 : Ref sig .tc := ⟨.hbm, 59, rfl⟩
abbrev main_call0_v13 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_c_2 : Ref sig .tc := ⟨.hbm, 64, rfl⟩
abbrev main_call1_v0 : Ref sig .tc := ⟨.hbm, 65, rfl⟩
abbrev main_call1_v1 : Ref sig .tc := ⟨.hbm, 66, rfl⟩
abbrev main_call1_v2 : Ref sig .tc := ⟨.hbm, 67, rfl⟩
abbrev main_call1_v3 : Ref sig .tc := ⟨.hbm, 68, rfl⟩
abbrev main_call1_v4 : Ref sig .tc := ⟨.hbm, 69, rfl⟩
abbrev main_call1_v5 : Ref sig .tc := ⟨.hbm, 70, rfl⟩
abbrev main_call1_v6 : Ref sig .tc := ⟨.hbm, 71, rfl⟩
abbrev main_call1_v7 : Ref sig .tc := ⟨.hbm, 72, rfl⟩
abbrev main_call1_v8 : Ref sig .tc := ⟨.hbm, 73, rfl⟩
abbrev main_call1_c : Ref sig .tc := ⟨.hbm, 74, rfl⟩
abbrev main_call1_v9 : Ref sig .tc := ⟨.hbm, 75, rfl⟩
abbrev main_call1_v10 : Ref sig .tc := ⟨.hbm, 76, rfl⟩
abbrev main_call1_v11 : Ref sig .tc := ⟨.hbm, 77, rfl⟩
abbrev main_call1_c_0 : Ref sig .tc := ⟨.hbm, 78, rfl⟩
abbrev main_call1_v12 : Ref sig .tc := ⟨.hbm, 79, rfl⟩
abbrev main_call1_v13 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_v37_0 : Ref sig .tc := ⟨.hbm, 87, rfl⟩
abbrev main_v37_1 : Ref sig .tc := ⟨.hbm, 88, rfl⟩
abbrev main_v38 : Ref sig .tc := ⟨.hbm, 89, rfl⟩
abbrev main_v39 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_scratch0 : Ref sig .tc := ⟨.vmem, 14, rfl⟩
abbrev cc1_stg0_0 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg4_1 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg8_0 : Ref sig .tc := ⟨.vmem, 26, rfl⟩
abbrev cc1_stg9_0 : Ref sig .tc := ⟨.vmem, 27, rfl⟩
abbrev cc1_stg10_0 : Ref sig .tc := ⟨.vmem, 28, rfl⟩
abbrev cc1_scratch0 : Ref sig .tc := ⟨.vmem, 29, rfl⟩
abbrev cc1_scratch1 : Ref sig .tc := ⟨.vmem, 30, rfl⟩
abbrev cc1_scratch2 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc1_sem0_0 : DmaSem sig := 14
abbrev cc1_sem1_0 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem6_0 : DmaSem sig := 23
abbrev cc1_sem7_0 : DmaSem sig := 24
abbrev cc1_sem8_0 : DmaSem sig := 25
abbrev cc1_sem9_0 : DmaSem sig := 26
abbrev cc1_sem10_0 : DmaSem sig := 27

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x26 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S26x416 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x416 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x416 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S416x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x1664 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S416x1664 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1664 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1664x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1664 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x8 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![8], ![false]⟩

def k1_off1 (i : grid1.Coords) : Fin 2 → Nat :=
  let arg0 : BitVec 32 := BitVec.ofNat 32 (i 0).val
  let c512_i32 : BitVec 32 := 512#32
  let v9 : BitVec 32 := Scalar.muli arg0 c512_i32
  let v10 : Index := Scalar.indexCast v9
  let c0_7 : Index := 0#32
  ![v10.toNat, 0]
def k1_off2 (i : grid1.Coords) : Fin 2 → Nat :=
  let c0_21 : Index := 0#32
  let arg0 : BitVec 32 := BitVec.ofNat 32 (i 0).val
  let c512_i32_20 : BitVec 32 := 512#32
  let v36 : BitVec 32 := Scalar.muli arg0 c512_i32_20
  let v37 : Index := Scalar.indexCast v36
  ![0, v37.toNat]
def k1_cond1 (i : grid1.Coords) : BitVec 1 :=
  let arg0 : BitVec 32 := BitVec.ofNat 32 (i 0).val
  let c7_i32 : BitVec 32 := 7#32
  let v41 : BitVec 1 := Scalar.cmpi .eq arg0 c7_i32
  let v42 : BitVec 32 := Scalar.extui v41
  let c0_i32 : BitVec 32 := 0#32
  let v43 : BitVec 1 := Scalar.cmpi .ne v42 c0_i32
  v43

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1024x1664 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1024x8 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x1664x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x512x1664 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S8x1664 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S2x1664x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S2x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S2x256x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S2x1 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1024x2 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]
-- ==== ReferenceIdeal.lean ====
abbrev S1024x26 : Shape := ⟨2, ![1024, 26]⟩
abbrev S26x17 : Shape := ⟨2, ![26, 17]⟩
abbrev S26x16x64 : Shape := ⟨3, ![26, 16, 64]⟩
abbrev S26x64 : Shape := ⟨2, ![26, 64]⟩
abbrev S1664x8 : Shape := ⟨2, ![1664, 8]⟩
abbrev S8x1664x512 : Shape := ⟨3, ![8, 1664, 512]⟩
abbrev S8x512 : Shape := ⟨2, ![8, 512]⟩
abbrev S8x512x1664 : Shape := ⟨3, ![8, 512, 1664]⟩
abbrev S8x1664 : Shape := ⟨2, ![8, 1664]⟩
abbrev S2x1664x256 : Shape := ⟨3, ![2, 1664, 256]⟩
abbrev S2x256 : Shape := ⟨2, ![2, 256]⟩
abbrev S2x256x1 : Shape := ⟨3, ![2, 256, 1]⟩
abbrev S2x1 : Shape := ⟨2, ![2, 1]⟩
abbrev S26x16 : Shape := ⟨2, ![26, 16]⟩
abbrev S1024x26x1 : Shape := ⟨3, ![1024, 26, 1]⟩
abbrev S1x26x16 : Shape := ⟨3, ![1, 26, 16]⟩
abbrev S1024x26x16 : Shape := ⟨3, ![1024, 26, 16]⟩
abbrev S_ : Shape := ⟨0, ![]⟩
abbrev S26x64x1024 : Shape := ⟨3, ![26, 64, 1024]⟩
abbrev S1024x26x64 : Shape := ⟨3, ![1024, 26, 64]⟩
abbrev S1x26x64 : Shape := ⟨3, ![1, 26, 64]⟩
abbrev S1024x1664 : Shape := ⟨2, ![1024, 1664]⟩
abbrev S1024x8 : Shape := ⟨2, ![1024, 8]⟩
abbrev S1024 : Shape := ⟨1, ![1024]⟩
abbrev S1024x1 : Shape := ⟨2, ![1024, 1]⟩
abbrev S1024x2 : Shape := ⟨2, ![1024, 2]⟩
abbrev S1024x2x1 : Shape := ⟨3, ![1024, 2, 1]⟩
abbrev S1024x2x2 : Shape := ⟨3, ![1024, 2, 2]⟩
abbrev S8x512x1024 : Shape := ⟨3, ![8, 512, 1024]⟩
abbrev S8x1024x512 : Shape := ⟨3, ![8, 1024, 512]⟩
abbrev S8x1x512 : Shape := ⟨3, ![8, 1, 512]⟩
abbrev S8x1024x1664 : Shape := ⟨3, ![8, 1024, 1664]⟩
abbrev S8x1x1664 : Shape := ⟨3, ![8, 1, 1664]⟩
abbrev S2x256x1024 : Shape := ⟨3, ![2, 256, 1024]⟩
abbrev S2x1024x256 : Shape := ⟨3, ![2, 1024, 256]⟩
abbrev S2x1x256 : Shape := ⟨3, ![2, 1, 256]⟩
abbrev S2x1024x1 : Shape := ⟨3, ![2, 1024, 1]⟩
abbrev S2x1x1 : Shape := ⟨3, ![2, 1, 1]⟩
abbrev S2x1024 : Shape := ⟨2, ![2, 1024]⟩

abbrev nBuf : Space → Nat
  | .hbm => 111
  | .vmem => 0
  | .smem => 0
  | _ => 0

abbrev bufTy : (tb : Table) → Fin (tcTables nBuf tb) → BufTy
  | .hbm, ⟨0, _⟩ => ⟨S1024x26, .f32⟩
  | .hbm, ⟨1, _⟩ => ⟨S26x17, .f32⟩
  | .hbm, ⟨2, _⟩ => ⟨S26x16x64, .f32⟩
  | .hbm, ⟨3, _⟩ => ⟨S26x64, .f32⟩
  | .hbm, ⟨4, _⟩ => ⟨S1664x8, .f32⟩
  | .hbm, ⟨5, _⟩ => ⟨S8x1664x512, .f32⟩
  | .hbm, ⟨6, _⟩ => ⟨S8x512, .f32⟩
  | .hbm, ⟨7, _⟩ => ⟨S8x512x1664, .f32⟩
  | .hbm, ⟨8, _⟩ => ⟨S8x1664, .f32⟩
  | .hbm, ⟨9, _⟩ => ⟨S2x1664x256, .f32⟩
  | .hbm, ⟨10, _⟩ => ⟨S2x256, .f32⟩
  | .hbm, ⟨11, _⟩ => ⟨S2x256x1, .f32⟩
  | .hbm, ⟨12, _⟩ => ⟨S2x1, .f32⟩
  | .hbm, ⟨13, _⟩ => ⟨S26x16, .f32⟩
  | .hbm, ⟨14, _⟩ => ⟨S26x16, .f32⟩
  | .hbm, ⟨15, _⟩ => ⟨S26x16, .f32⟩
  | .hbm, ⟨16, _⟩ => ⟨S26x16, .f32⟩
  | .hbm, ⟨17, _⟩ => ⟨S1024x26x1, .f32⟩
  | .hbm, ⟨18, _⟩ => ⟨S1x26x16, .f32⟩
  | .hbm, ⟨19, _⟩ => ⟨S1024x26x16, .f32⟩
  | .hbm, ⟨20, _⟩ => ⟨S1024x26x16, .f32⟩
  | .hbm, ⟨21, _⟩ => ⟨S1024x26x16, .f32⟩
  | .hbm, ⟨22, _⟩ => ⟨S1x26x16, .f32⟩
  | .hbm, ⟨23, _⟩ => ⟨S1024x26x16, .f32⟩
  | .hbm, ⟨24, _⟩ => ⟨S1024x26x16, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S1024x26x16, .f32⟩
  | .hbm, ⟨29, _⟩ => ⟨S1024x26x16, .f32⟩
  | .hbm, ⟨30, _⟩ => ⟨S_, .f32⟩
  | .hbm, ⟨31, _⟩ => ⟨S1024x26x16, .f32⟩
  | .hbm, ⟨32, _⟩ => ⟨S1024x26x16, .f32⟩
  | .hbm, ⟨33, _⟩ => ⟨S26x64x1024, .f32⟩
  | .hbm, ⟨34, _⟩ => ⟨S1024x26x64, .f32⟩
  | .hbm, ⟨35, _⟩ => ⟨S1x26x64, .f32⟩
  | .hbm, ⟨36, _⟩ => ⟨S1024x26x64, .f32⟩
  | .hbm, ⟨37, _⟩ => ⟨S1024x26x64, .f32⟩
  | .hbm, ⟨38, _⟩ => ⟨S1024x1664, .f32⟩
  | .hbm, ⟨39, _⟩ => ⟨S1024x8, .f32⟩
  | .hbm, ⟨40, _⟩ => ⟨S_, .f32⟩
  | .hbm, ⟨41, _⟩ => ⟨S1024, .f32⟩
  | .hbm, ⟨42, _⟩ => ⟨S_, .f32⟩
  | .hbm, ⟨43, _⟩ => ⟨S1024, .f32⟩
  | .hbm, ⟨44, _⟩ => ⟨S1024, .f32⟩
  | .hbm, ⟨45, _⟩ => ⟨S1024x1, .f32⟩
  | .hbm, ⟨46, _⟩ => ⟨S1024x8, .f32⟩
  | .hbm, ⟨47, _⟩ => ⟨S1024x8, .f32⟩
  | .hbm, ⟨48, _⟩ => ⟨S1024x8, .f32⟩
  | .hbm, ⟨49, _⟩ => ⟨S_, .f32⟩
  | .hbm, ⟨50, _⟩ => ⟨S1024, .f32⟩
  | .hbm, ⟨51, _⟩ => ⟨S1024x1, .f32⟩
  | .hbm, ⟨52, _⟩ => ⟨S1024x8, .f32⟩
  | .hbm, ⟨53, _⟩ => ⟨S1024x8, .f32⟩
  | .hbm, ⟨54, _⟩ => ⟨S1024x2, .f32⟩
  | .hbm, ⟨55, _⟩ => ⟨S1024x2, .i32⟩
  | .hbm, ⟨56, _⟩ => ⟨S_, .f32⟩
  | .hbm, ⟨57, _⟩ => ⟨S1024, .f32⟩
  | .hbm, ⟨58, _⟩ => ⟨S1024x1, .f32⟩
  | .hbm, ⟨59, _⟩ => ⟨S1024x2, .f32⟩
  | .hbm, ⟨60, _⟩ => ⟨S1024x2, .f32⟩
  | .hbm, ⟨61, _⟩ => ⟨S_, .f32⟩
  | .hbm, ⟨62, _⟩ => ⟨S1024x8, .f32⟩
  | .hbm, ⟨63, _⟩ => ⟨S1024, .i32⟩
  | .hbm, ⟨64, _⟩ => ⟨S1024x1, .i32⟩
  | .hbm, ⟨65, _⟩ => ⟨S_, .i32⟩
  | .hbm, ⟨66, _⟩ => ⟨S1024x1, .i32⟩
  | .hbm, ⟨67, _⟩ => ⟨S1024x1, .i1⟩
  | .hbm, ⟨68, _⟩ => ⟨S_, .i32⟩
  | .hbm, ⟨69, _⟩ => ⟨S1024x1, .i32⟩
  | .hbm, ⟨70, _⟩ => ⟨S1024x1, .i32⟩
  | .hbm, ⟨71, _⟩ => ⟨S1024x1, .i32⟩
  | .hbm, ⟨72, _⟩ => ⟨S_, .i32⟩
  | .hbm, ⟨73, _⟩ => ⟨S1024x2, .i32⟩
  | .hbm, ⟨74, _⟩ => ⟨S1024x2, .i1⟩
  | .hbm, ⟨75, _⟩ => ⟨S_, .i32⟩
  | .hbm, ⟨76, _⟩ => ⟨S1024x2, .i32⟩
  | .hbm, ⟨77, _⟩ => ⟨S1024x2, .i32⟩
  | .hbm, ⟨78, _⟩ => ⟨S1024x2, .i32⟩
  | .hbm, ⟨79, _⟩ => ⟨S1024x2, .i32⟩
  | .hbm, ⟨80, _⟩ => ⟨S1024x2x1, .i32⟩
  | .hbm, ⟨81, _⟩ => ⟨S1024x2x1, .i32⟩
  | .hbm, ⟨82, _⟩ => ⟨S1024x2x2, .i32⟩
  | .hbm, ⟨83, _⟩ => ⟨S1024x8, .f32⟩
  | .hbm, ⟨84, _⟩ => ⟨S8x512x1024, .f32⟩
  | .hbm, ⟨85, _⟩ => ⟨S8x1024x512, .f32⟩
  | .hbm, ⟨86, _⟩ => ⟨S8x1x512, .f32⟩
  | .hbm, ⟨87, _⟩ => ⟨S8x1024x512, .f32⟩
  | .hbm, ⟨88, _⟩ => ⟨S8x1024x512, .f32⟩
  | .hbm, ⟨89, _⟩ => ⟨S_, .f32⟩
  | .hbm, ⟨90, _⟩ => ⟨S8x1024x512, .f32⟩
  | .hbm, ⟨91, _⟩ => ⟨S8x1024x512, .f32⟩
  | .hbm, ⟨92, _⟩ => ⟨S8x1024x1664, .f32⟩
  | .hbm, ⟨93, _⟩ => ⟨S8x1x1664, .f32⟩
  | .hbm, ⟨94, _⟩ => ⟨S8x1024x1664, .f32⟩
  | .hbm, ⟨95, _⟩ => ⟨S8x1024x1664, .f32⟩
  | .hbm, ⟨96, _⟩ => ⟨S1024x1664, .f32⟩
  | .hbm, ⟨97, _⟩ => ⟨S2x256x1024, .f32⟩
  | .hbm, ⟨98, _⟩ => ⟨S2x1024x256, .f32⟩
  | .hbm, ⟨99, _⟩ => ⟨S2x1x256, .f32⟩
  | .hbm, ⟨100, _⟩ => ⟨S2x1024x256, .f32⟩
  | .hbm, ⟨101, _⟩ => ⟨S2x1024x256, .f32⟩
  | .hbm, ⟨102, _⟩ => ⟨S_, .f32⟩
  | .hbm, ⟨103, _⟩ => ⟨S2x1024x256, .f32⟩
  | .hbm, ⟨104, _⟩ => ⟨S2x1024x256, .f32⟩
  | .hbm, ⟨105, _⟩ => ⟨S2x1024x1, .f32⟩
  | .hbm, ⟨106, _⟩ => ⟨S2x1x1, .f32⟩
  | .hbm, ⟨107, _⟩ => ⟨S2x1024x1, .f32⟩
  | .hbm, ⟨108, _⟩ => ⟨S2x1024x1, .f32⟩
  | .hbm, ⟨109, _⟩ => ⟨S2x1024, .f32⟩
  | .hbm, ⟨110, _⟩ => ⟨S1024x2, .f32⟩
  | _, _ => ⟨S1024x26, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst : Ref sig .tc := ⟨.hbm, 25, rfl⟩
abbrev main_cst_0 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_1 : Ref sig .tc := ⟨.hbm, 40, rfl⟩
abbrev main_v20 : Ref sig .tc := ⟨.hbm, 41, rfl⟩
abbrev main_cst_2 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_3 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_values : Ref sig .tc := ⟨.hbm, 54, rfl⟩
abbrev main_indices : Ref sig .tc := ⟨.hbm, 55, rfl⟩
abbrev main_cst_4 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_5 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_c : Ref sig .tc := ⟨.hbm, 65, rfl⟩
abbrev main_v38 : Ref sig .tc := ⟨.hbm, 66, rfl⟩
abbrev main_v39 : Ref sig .tc := ⟨.hbm, 67, rfl⟩
abbrev main_c_6 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_c_7 : Ref sig .tc := ⟨.hbm, 72, rfl⟩
abbrev main_v43 : Ref sig .tc := ⟨.hbm, 73, rfl⟩
abbrev main_v44 : Ref sig .tc := ⟨.hbm, 74, rfl⟩
abbrev main_c_8 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_call1_cst : Ref sig .tc := ⟨.hbm, 89, rfl⟩
abbrev main_call1_v0 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_call2_cst : Ref sig .tc := ⟨.hbm, 102, rfl⟩
abbrev main_call2_v0 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩

abbrev nD : Nat := 1
abbrev τ : Topo := Topo.v7x

variable {F : FTy → Type} [FloatOps F]
-- ==== Proof.WholeAccess.lean ====
/-
  Loads and stores of a whole buffer.

  A load through the rectangle of the view's own sizes reads what the view reads, and after a store through it the view
  reads the payload. The sizes stay out of the index `simp` looks the lemmas up by, since a literal shape's sizes are
  evaluated before the lookup.
-/
module

public import Idealize.ShloMosaic.Lib.VecWindow

@[expose] public section

namespace Cert.Access

open Idealize.ShloMosaic

variable {Val : EltTy → Type} {sig : RefSig} {κ : Kind} {sp : Space} {s : Shape} {e : EltTy}

/-- A load of everything. -/
theorem load_whole (v : View sig κ sp s e) (f : v.ty.Contents Val) {off : Fin s.rank → ℕ} (inb : ∀ a, off a + s.size a ≤ s.size a) :
    v.readAt Val (Rect.unit off (no_index s.size) inb).toLoadRect f = v.read Val f :=
  View.readAt_full v f inb

/-- A load of everything after a store of everything. -/
theorem reload_whole [∀ e, Nonempty (Val e)] (v : View sig κ sp s e) {off off' : Fin s.rank → ℕ}
    (inb : ∀ a, off a + s.size a ≤ s.size a) (inb' : ∀ a, off' a + s.size a ≤ s.size a) (w : s.Idx → Val e)
    (L : List (View.Piece Val s e)) :
    v.readCov ((⟨Rect.unit off' (no_index s.size) inb', w⟩ : View.Piece Val s e) :: L)
      (Rect.unit off (no_index s.size) inb).toLoadRect = w :=
  View.readAt_writes_full v _ inb inb' w L

/-- A load of a box reads that box of what the view reads. -/
theorem load_box (v : View sig κ sp s e) (f : v.ty.Contents Val) {off size : Fin s.rank → ℕ} (inb : ∀ a, off a + size a ≤ s.size a) :
    v.readAt Val (Rect.unit off size inb).toLoadRect f = View.ld (v.read Val f) (Rect.unit off size inb) := rfl

/-- What one store of a box leaves: the payload put into what was there. -/
theorem after_put (v : View sig κ sp s e) (f : v.ty.Contents Val) {off size : Fin s.rank → ℕ} (inb : ∀ a, off a + size a ≤ s.size a)
    (w : (Rect.unit off size inb).shape.Idx → Val e) (L : List (View.Piece Val s e)) :
    v.read Val (v.writes Val f (⟨Rect.unit off size inb, w⟩ :: L)) = VecWindow.put (v.read Val (v.writes Val f L)) off size w :=
  View.read_writes_cons_put v f inb w L rfl

end Cert.Access
-- ==== Proof.PI.RouteBody.lean ====
/-
  One run of the embedding and routing body, on any whole staging buffers.

  At the first grid point the body fills its scratch with the block-diagonal embedding weights; at every point it
  computes the tokens and the router's combine weights of one block of rows. What it leaves is stated outright: the
  token block, the combine block and the scratch, as the printed payloads of what the body reads.
-/
module

public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.Frame
public import Idealize.ShloMosaic.Lib.Pipeline.FrameBody
public import Idealize.ShloMosaic.Lib.Tactic
public import proofs.«01_k».proof.Proof.WholeAccess
public import Idealize.ShloMosaic.Lib.WordCmp

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The lane numbers 0 … 7 along the expert axis, as the body generates them. -/
abbrev lanes : IVec S512x8 32 := iota .tc S512x8 32 [1] iota_S512x8_d1_w32

/-- The combine weights of a block of rows, from what the body reads. -/
def combBlock (x0 : Vec F S512x26 .f32) (x1 : Vec F S26x416 .f32) (x2 x3 : Vec F S1x416 .f32) (w : Vec F S416x1664 .f32)
    (x7 : Vec F S1x1664 .f32) (x8 : Vec F S1664x8 .f32) : Vec F S512x8 .f32 :=
  k0_pay1 (k0_pay5 x0 x1 x2 x3 w x7 x8) lanes (k0_pay6 x0 x1 x2 x3 w x7 x8) (k0_pay7 x0 x1 x2 x3 w x7 x8)

/-- The token block, rounded for storing, from what the body reads. -/
def tokBlock (x0 : Vec F S512x26 .f32) (x1 : Vec F S26x416 .f32) (x2 x3 : Vec F S1x416 .f32) (w : Vec F S416x1664 .f32)
    (x7 : Vec F S1x1664 .f32) : Vec F S512x1664 .bf16 :=
  k0_pay2 (k0_pay4 x0 x1 x2 x3 w x7)

/-- The first point's condition, on the grid coordinates. -/
abbrev isFirst (i : grid0.Coords) : Prop :=
  Scalar.cmpi .ne (Scalar.extui (Scalar.cmpi .eq (BitVec.ofNat 32 (i 0).val) 0#32)) 0#32 = 1#1

theorem isFirst_iff (t : Fin cfg0.N) : isFirst (grid0.coords t) ↔ t.val = 0 := by
  have ht : t.val < 2 := Nat.lt_of_lt_of_eq t.isLt N_0
  have e0 : (grid0.coords t 0).val = t.val / 1 % 2 := Pipeline.Grid.coords_val t 0 (by decide) rfl
  rw [show t.val = 0 ↔ t.val % 2 = 0 by omega]
  simp only [isFirst, e0]
  word_cmp

/-- The scratch after one run of the body over `ws`: filled at the first point, kept at the others. -/
def fillBlock (i : grid0.Coords) (ws : Vec F S416x1664 .f32) (x4 : Vec F S416x64 .f32) (x5 : Vec F S64x1664 .f32)
    (x6 : Vec F S416x1664 .f32) : Vec F S416x1664 .f32 :=
  if isFirst i then k0_pay3 x4 x5 x6 else ws

set_option maxHeartbeats 400000 in
/-- One run of the body: the inputs stay, the two outputs are the token and combine blocks over the filled scratch. -/
theorem route_run (c : Dev nD) (i : grid0.Coords)
    (arg1 : Memref sig .tc .vmem S512x26 .f32) (harg1 : arg1.IsWhole) (arg2 : Memref sig .tc .vmem S26x416 .f32) (harg2 : arg2.IsWhole)
    (arg3 : Memref sig .tc .vmem S1x416 .f32) (harg3 : arg3.IsWhole) (arg4 : Memref sig .tc .vmem S1x416 .f32) (harg4 : arg4.IsWhole)
    (arg5 : Memref sig .tc .vmem S416x64 .f32) (harg5 : arg5.IsWhole) (arg6 : Memref sig .tc .vmem S64x1664 .f32) (harg6 : arg6.IsWhole)
    (arg7 : Memref sig .tc .vmem S416x1664 .f32) (harg7 : arg7.IsWhole) (arg8 : Memref sig .tc .vmem S1x1664 .f32) (harg8 : arg8.IsWhole)
    (arg9 : Memref sig .tc .vmem S1664x8 .f32) (harg9 : arg9.IsWhole) (arg10 : Memref sig .tc .vmem S512x1664 .bf16) (harg10 : arg10.IsWhole)
    (arg11 : Memref sig .tc .vmem S512x8 .f32) (harg11 : arg11.IsWhole) (arg12 : Memref sig .tc .vmem S416x1664 .f32) (harg12 : arg12.IsWhole)
    (x0 : Vec F S512x26 .f32) (x1 : Vec F S26x416 .f32) (x2 : Vec F S1x416 .f32) (x3 : Vec F S1x416 .f32) (x4 : Vec F S416x64 .f32)
    (x5 : Vec F S64x1664 .f32) (x6 : Vec F S416x1664 .f32) (x7 : Vec F S1x1664 .f32) (x8 : Vec F S1664x8 .f32) (ws : Vec F S416x1664 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ (∃ d, owns (c : Thread nD τ) arg10 fullShare d) ∗ (∃ d, owns (c : Thread nD τ) arg11 fullShare d) ∗ owns (c : Thread nD τ) arg12 fullShare ws
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare (tokBlock x0 x1 x2 x3 (fillBlock i ws x4 x5 x6) x7)
            ∗ owns (c : Thread nD τ) arg11 fullShare (combBlock x0 x1 x2 x3 (fillBlock i ws x4 x5 x6) x7 x8)
            ∗ owns (c : Thread nD τ) arg12 fullShare (fillBlock i ws x4 x5 x6)) -∗ K ⟨⟩))
      ⊢ wp frame (wpE (defs₀ (F := F)) Variants.none c none) E
          (cc0__embed_route_body i arg1 harg1 arg2 harg2 arg3 harg3 arg4 harg4 arg5 harg5 arg6 harg6 arg7 harg7 arg8 harg8 arg9 harg9 arg10 harg10 arg11 harg11 arg12 harg12) K := by
  simp only [cc0__embed_route_body_eq_skeleton]; unfold cc0__embed_route_body_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%fs0, %hfs0, HS0⟩, Hk⟩
  subst hf0 hf1 hf2 hf3 hf4 hf5 hf6 hf7 hf8 hfs0
  by_cases hc : isFirst i
  all_goals
    first
      | rw [show fillBlock i (arg12.view.read (Elt F) fs0) (arg5.view.read (Elt F) f4) (arg6.view.read (Elt F) f5) (arg7.view.read (Elt F) f6) = _ from if_pos hc]
      | rw [show fillBlock i (arg12.view.read (Elt F) fs0) (arg5.view.read (Elt F) f4) (arg6.view.read (Elt F) f5) (arg7.view.read (Elt F) f6) = _ from if_neg hc]
    sl_exec (disch := first | sl_exact hc)
    sl_step
    iapply Hk
    isplitl [H0]; · iexists f0; isplitr; (· ipureintro; rfl); iexact H0
    isplitl [H1]; · iexists f1; isplitr; (· ipureintro; rfl); iexact H1
    isplitl [H2]; · iexists f2; isplitr; (· ipureintro; rfl); iexact H2
    isplitl [H3]; · iexists f3; isplitr; (· ipureintro; rfl); iexact H3
    isplitl [H4]; · iexists f4; isplitr; (· ipureintro; rfl); iexact H4
    isplitl [H5]; · iexists f5; isplitr; (· ipureintro; rfl); iexact H5
    isplitl [H6]; · iexists f6; isplitr; (· ipureintro; rfl); iexact H6
    isplitl [H7]; · iexists f7; isplitr; (· ipureintro; rfl); iexact H7
    isplitl [H8]; · iexists f8; isplitr; (· ipureintro; rfl); iexact H8
    isplitl [H9]
    · iexists _; isplitr; swap; (· iexact H9); ipureintro
      clear * -
      sl_unfold_run_names
      refine (View.read_writes_full _ _ _ _ _).trans ?_
      simp only [Access.load_whole, Access.reload_whole, tokBlock, combBlock, lanes]
    isplitl [H10]
    · iexists _; isplitr; swap; (· iexact H10); ipureintro
      clear * -
      sl_unfold_run_names
      refine (View.read_writes_full _ _ _ _ _).trans ?_
      simp only [Access.load_whole, Access.reload_whole, tokBlock, combBlock, lanes]
    iexists _; isplitr; swap; (· iexact HS0); ipureintro
    clear * -
    first
      | sl_unfold_run_names
        refine (View.read_writes_full _ _ _ _ _).trans ?_
        simp only [Access.load_whole]
      | rfl

end Cert.KernelIdeal.Run

end
-- ==== Proof.PI.RouteData.lean ====
/-
  The proof data of the embedding and routing region, over any contents of the arrays it finds.

  Between points the scratch holds the block-diagonal embedding weights, once the first point has filled it. After a point
  the two outputs' staging buffers hold the token block and the combine block of that point's rows.
-/
module

public import proofs.«01_k».proof.Proof.PI.RouteBody

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The block window `w` reads at point `t`, of the arrays at `W`. -/
def routeBlk (W : Valuation τ sig (Elt F)) (w : Fin cfg0.W) (t : Fin cfg0.N) :
    ((cfg0.win w).xblock (cfg0.grid.coords t)).Idx → Elt F (cfg0.win w).elt :=
  ((cfg0.win w).blk t).view.read (Elt F) (W (Proc.devRef .tc (Pipeline.arrRef spec0 w)))

/-- The block-diagonal embedding weights the first point leaves in the scratch. -/
def wideW (W : Valuation τ sig (Elt F)) : Vec F S416x1664 .f32 :=
  k0_pay3 (routeBlk W 4 t0_0) (routeBlk W 5 t0_0) (routeBlk W 6 t0_0)

/-- The tokens of point `t`'s rows. -/
def tokAt (W : Valuation τ sig (Elt F)) (t : Fin cfg0.N) : Vec F S512x1664 .bf16 :=
  tokBlock (routeBlk W 0 t) (routeBlk W 1 t) (routeBlk W 2 t) (routeBlk W 3 t) (wideW W) (routeBlk W 7 t)

/-- The combine weights of point `t`'s rows. -/
def combAt (W : Valuation τ sig (Elt F)) (t : Fin cfg0.N) : Vec F S512x8 .f32 :=
  combBlock (routeBlk W 0 t) (routeBlk W 1 t) (routeBlk W 2 t) (routeBlk W 3 t) (wideW W) (routeBlk W 7 t) (routeBlk W 8 t)

/-- The invariant before position `n`: the scratch, filled once a point has run, and what gives the rest of the scoped
    buffers back when the scratch is returned at any contents. -/
def routeInv (W : Valuation τ sig (Elt F)) (c : Dev nD) (n : ℕ) : sProp 𝕄 :=
  iprop((∃ ws, ⌜n ≠ 0 → ws = wideW W⌝ ∗ owns (c : Thread nD τ) (Memref.whole cc0_scratch0) fullShare ws)
    ∗ (iprop(∃ d, owns (c : Thread nD τ) (Memref.whole cc0_scratch0) fullShare d)
        -∗ Pipeline.scopedRest (Ix := Unit) (Name := ℕ) (U := UR sig nD τ) (Lvl := ℕ) (Val := Elt F) spec0 c))

/-- The proof data: the arrays as found; each input's buffer at its block, the outputs' at the point's tokens and combine
    weights; nothing owed; full shares. -/
def routeDat (W : Valuation τ sig (Elt F)) (c : Dev nD) : Dat τ (Elt F) Unit ℕ (UR sig nD τ) ℕ cfg0 c where
  A w := W (Proc.devRef .tc (Pipeline.arrRef spec0 w))
  after w t := match w with
    | ⟨0, _⟩ => routeBlk W 0 t
    | ⟨1, _⟩ => routeBlk W 1 t
    | ⟨2, _⟩ => routeBlk W 2 t
    | ⟨3, _⟩ => routeBlk W 3 t
    | ⟨4, _⟩ => routeBlk W 4 t
    | ⟨5, _⟩ => routeBlk W 5 t
    | ⟨6, _⟩ => routeBlk W 6 t
    | ⟨7, _⟩ => routeBlk W 7 t
    | ⟨8, _⟩ => routeBlk W 8 t
    | ⟨9, _⟩ => tokAt W t
    | ⟨10, _⟩ => combAt W t
  Φ t := routeInv W c t.val
  q _ := fullShare
  owed _ := 0

theorem routeDat_A (W : Valuation τ sig (Elt F)) (c : Dev nD) (w : Fin cfg0.W) :
    (routeDat W c).A w = W (Proc.devRef .tc (Pipeline.arrRef spec0 w)) := by
  dsimp only [routeDat]

/-- An input's staging buffer, left at its block by every point, holds the point's block when the body runs. -/
theorem route_staged (W : Valuation τ sig (Elt F)) (c : Dev nD) (w : Fin cfg0.W) (hin : (cfg0.win w).isOut = false)
    (hlive : ∀ i, cfg0.idle w i = false)
    (hclip : ∀ t t' : Fin cfg0.N, (cfg0.win w).index t = (cfg0.win w).index t' →
      (cfg0.win w).clip (cfg0.grid.coords t) = (cfg0.win w).clip (cfg0.grid.coords t'))
    (hafter : ∀ t, (cfg0.win w).cut (cfg0.grid.coords t) ((routeDat W c).after w t) = routeBlk W w t) (t : Fin cfg0.N) (d) :
    (routeDat W c).before w t d = (cfg0.win w).fill (cfg0.grid.coords t) d (routeBlk W w t) :=
  ((routeDat W c).before_in_eq_fetched w hin hlive hclip
      (fun t => (hafter t).trans (by unfold Dat.blockOf routeBlk; rw [routeDat_A])) t d).trans
    (by unfold Dat.fetched Dat.blockOf routeBlk; rw [routeDat_A])

theorem route_before0 (W : Valuation τ sig (Elt F)) (c : Dev nD) (t : Fin cfg0.N) (d) :
    (routeDat W c).before 0 t d = routeBlk W 0 t :=
  route_staged W c 0 rfl (fun _ => rfl) (fun _ _ _ => rfl) (fun _ => by dsimp only [routeDat]) t d
theorem route_before1 (W : Valuation τ sig (Elt F)) (c : Dev nD) (t : Fin cfg0.N) (d) :
    (routeDat W c).before 1 t d = routeBlk W 1 t :=
  route_staged W c 1 rfl (fun _ => rfl) (fun _ _ _ => rfl) (fun _ => by dsimp only [routeDat]) t d
theorem route_before2 (W : Valuation τ sig (Elt F)) (c : Dev nD) (t : Fin cfg0.N) (d) :
    (routeDat W c).before 2 t d = routeBlk W 2 t :=
  route_staged W c 2 rfl (fun _ => rfl) (fun _ _ _ => rfl) (fun _ => by dsimp only [routeDat]) t d
theorem route_before3 (W : Valuation τ sig (Elt F)) (c : Dev nD) (t : Fin cfg0.N) (d) :
    (routeDat W c).before 3 t d = routeBlk W 3 t :=
  route_staged W c 3 rfl (fun _ => rfl) (fun _ _ _ => rfl) (fun _ => by dsimp only [routeDat]) t d
theorem route_before4 (W : Valuation τ sig (Elt F)) (c : Dev nD) (t : Fin cfg0.N) (d) :
    (routeDat W c).before 4 t d = routeBlk W 4 t :=
  route_staged W c 4 rfl (fun _ => rfl) (fun _ _ _ => rfl) (fun _ => by dsimp only [routeDat]) t d
theorem route_before5 (W : Valuation τ sig (Elt F)) (c : Dev nD) (t : Fin cfg0.N) (d) :
    (routeDat W c).before 5 t d = routeBlk W 5 t :=
  route_staged W c 5 rfl (fun _ => rfl) (fun _ _ _ => rfl) (fun _ => by dsimp only [routeDat]) t d
theorem route_before6 (W : Valuation τ sig (Elt F)) (c : Dev nD) (t : Fin cfg0.N) (d) :
    (routeDat W c).before 6 t d = routeBlk W 6 t :=
  route_staged W c 6 rfl (fun _ => rfl) (fun _ _ _ => rfl) (fun _ => by dsimp only [routeDat]) t d
theorem route_before7 (W : Valuation τ sig (Elt F)) (c : Dev nD) (t : Fin cfg0.N) (d) :
    (routeDat W c).before 7 t d = routeBlk W 7 t :=
  route_staged W c 7 rfl (fun _ => rfl) (fun _ _ _ => rfl) (fun _ => by dsimp only [routeDat]) t d
theorem route_before8 (W : Valuation τ sig (Elt F)) (c : Dev nD) (t : Fin cfg0.N) (d) :
    (routeDat W c).before 8 t d = routeBlk W 8 t :=
  route_staged W c 8 rfl (fun _ => rfl) (fun _ _ _ => rfl) (fun _ => by dsimp only [routeDat]) t d

/-- What the scratch holds after a point's run, whichever point it is. -/
theorem fill_wideW (W : Valuation τ sig (Elt F)) (t : Fin cfg0.N) (ws : Vec F S416x1664 .f32) (h : t.val ≠ 0 → ws = wideW W) :
    fillBlock (grid0.coords t) ws (routeBlk W 4 t) (routeBlk W 5 t) (routeBlk W 6 t) = wideW W := by
  unfold fillBlock
  by_cases ht : t.val = 0
  · rw [if_pos ((isFirst_iff t).mpr ht)]
    obtain rfl : t = t0_0 := Fin.ext ht
    rfl
  · rw [if_neg (fun hc => ht ((isFirst_iff t).mp hc)), h ht]

/-- The body's table row is the body at the point's staging buffers. -/
theorem row0 (t : Fin cfg0.N) : defs₀ (F := F) .tc cfg0.body (cfg0.bodyArgs t (cfg0.slots t)) = bodyAt0 t := by
  unfold defs₀; rw [Defs.onTc_tc]

set_option maxHeartbeats 1000000 in
/-- The body at any point takes the invariant and the staged blocks to the next invariant and the point's results. -/
theorem route_point (W : Valuation τ sig (Elt F)) (c : Dev nD) (t : Fin cfg0.N) :
    iprop((routeDat W c).Φ t.castSucc ∗ (routeDat W c).owesAt () t.castSucc
      ∗ (∃ d, owns (c : Thread nD τ) (st0_0 t) fullShare ((routeDat W c).before 0 t d))
      ∗ (∃ d, owns (c : Thread nD τ) (st0_1 t) fullShare ((routeDat W c).before 1 t d))
      ∗ (∃ d, owns (c : Thread nD τ) (st0_2 t) fullShare ((routeDat W c).before 2 t d))
      ∗ (∃ d, owns (c : Thread nD τ) (st0_3 t) fullShare ((routeDat W c).before 3 t d))
      ∗ (∃ d, owns (c : Thread nD τ) (st0_4 t) fullShare ((routeDat W c).before 4 t d))
      ∗ (∃ d, owns (c : Thread nD τ) (st0_5 t) fullShare ((routeDat W c).before 5 t d))
      ∗ (∃ d, owns (c : Thread nD τ) (st0_6 t) fullShare ((routeDat W c).before 6 t d))
      ∗ (∃ d, owns (c : Thread nD τ) (st0_7 t) fullShare ((routeDat W c).before 7 t d))
      ∗ (∃ d, owns (c : Thread nD τ) (st0_8 t) fullShare ((routeDat W c).before 8 t d))
      ∗ (∃ d, owns (c : Thread nD τ) (st0_9 t) fullShare ((routeDat W c).before 9 t d))
      ∗ (∃ d, owns (c : Thread nD τ) (st0_10 t) fullShare ((routeDat W c).before 10 t d)))
      ⊢ wp frame (wpE (defs₀ (F := F)) Variants.none c none) Set.univ (bodyAt0 t) (fun _ =>
    iprop((routeDat W c).Φ t.succ ∗ (routeDat W c).owesAt () t.succ
      ∗ owns (c : Thread nD τ) (st0_0 t) fullShare ((routeDat W c).after 0 t)
      ∗ owns (c : Thread nD τ) (st0_1 t) fullShare ((routeDat W c).after 1 t)
      ∗ owns (c : Thread nD τ) (st0_2 t) fullShare ((routeDat W c).after 2 t)
      ∗ owns (c : Thread nD τ) (st0_3 t) fullShare ((routeDat W c).after 3 t)
      ∗ owns (c : Thread nD τ) (st0_4 t) fullShare ((routeDat W c).after 4 t)
      ∗ owns (c : Thread nD τ) (st0_5 t) fullShare ((routeDat W c).after 5 t)
      ∗ owns (c : Thread nD τ) (st0_6 t) fullShare ((routeDat W c).after 6 t)
      ∗ owns (c : Thread nD τ) (st0_7 t) fullShare ((routeDat W c).after 7 t)
      ∗ owns (c : Thread nD τ) (st0_8 t) fullShare ((routeDat W c).after 8 t)
      ∗ owns (c : Thread nD τ) (st0_9 t) fullShare ((routeDat W c).after 9 t)
      ∗ owns (c : Thread nD τ) (st0_10 t) fullShare ((routeDat W c).after 10 t))) := by
  unfold bodyAt0
  simp only [route_before0, route_before1, route_before2, route_before3, route_before4, route_before5, route_before6, route_before7, route_before8]
  rw [show (routeDat W c).owesAt () t.succ = (routeDat W c).owesAt () t.castSucc from rfl,
    show (routeDat W c).Φ t.castSucc = routeInv W c t.val from rfl,
    show (routeDat W c).Φ t.succ = routeInv W c (t.val + 1) from rfl]
  dsimp only [routeDat]
  unfold routeInv
  iintro ⟨⟨⟨%ws, %hws, HS⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (route_run c (grid0.coords t) _ _ _ _ _ _ _ _ _ _ _ _ _ _ _ _ _ _ _ _ _ _ _ _ (routeBlk W 0 t) (routeBlk W 1 t) (routeBlk W 2 t) (routeBlk W 3 t) (routeBlk W 4 t) (routeBlk W 5 t) (routeBlk W 6 t) (routeBlk W 7 t) (routeBlk W 8 t) ws)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [HS]; · iexact HS
  rw [fill_wideW W t ws hws]
  iintro ⟨H0, H1, H2, H3, H4, H5, H6, H7, H8, H9, H10, HS⟩
  isplitl [HS Hr]
  · isplitl [HS]
    · iexists _
      isplitr
      swap; · iexact HS
      ipureintro; exact fun _ => rfl
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation. -/
theorem route_obligation (W : Valuation τ sig (Elt F)) (c : Dev nD) :
    BodyObligation (routeDat W c) (defs₀ (F := F)) Variants.none () Set.univ := fun t => by
  rw [bigSep_W0, bigSep_W0, row0]
  exact triple_restated (route_point W c t) rfl .rfl fun _ => .rfl

/-- The scoped buffers make the invariant before the first point. -/
theorem route_in (W : Valuation τ sig (Elt F)) (c : Dev nD) :
    iprop(Pipeline.scopedRest (Ix := Unit) (Name := ℕ) (U := UR sig nD τ) (Lvl := ℕ) (Val := Elt F) spec0 c ∗ emp)
      ⊢ (routeDat W c).Φ 0 := by
  rw [show (routeDat W c).Φ 0 = routeInv W c 0 from rfl]
  unfold routeInv
  rw [scopedRest0_eq]
  simp only [owns_whole]
  iintro ⟨⟨⟨%f, HS⟩, Hr⟩, -⟩
  isplitl [HS]
  · iexists f
    isplitr
    swap; · iexact HS
    ipureintro; exact fun h => absurd rfl h
  iintro HS
  isplitl [HS]; · iexact HS
  iexact Hr

/-- The invariant after the last point gives the scoped buffers back. -/
theorem route_out (W : Valuation τ sig (Elt F)) (c : Dev nD) :
    (routeDat W c).Φ (Fin.last cfg0.N)
      ⊢ iprop(Pipeline.scopedRest (Ix := Unit) (Name := ℕ) (U := UR sig nD τ) (Lvl := ℕ) (Val := Elt F) spec0 c ∗ emp) := by
  rw [show (routeDat W c).Φ (Fin.last cfg0.N) = routeInv W c cfg0.N from rfl]
  unfold routeInv
  iintro ⟨⟨%ws, -, HS⟩, Hr⟩
  isplitl [HS Hr]
  · iapply Hr
    iexists ws
    iexact HS
  iempintro

end Cert.KernelIdeal.Run

end
-- ==== Proof.PI.MoeBody.lean ====
/-
  One run of the expert body, on any whole staging buffers.

  At expert `e` the body adds one block of columns to the gated hidden layer and one block of rows to the stacked
  second weights, both kept in scratch; at the last expert it turns the two scratches into the two towers' outputs,
  one column of the result each.
-/
module

public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.Frame
public import Idealize.ShloMosaic.Lib.Pipeline.FrameBody
public import Idealize.ShloMosaic.Lib.Tactic
public import proofs.«01_k».proof.Proof.WholeAccess
public import Idealize.ShloMosaic.Lib.WordCmp

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The gated hidden layer's scratch with expert `i`'s columns put in. -/
def hidNext (i : grid1.Coords) (hs : Vec F S1024x4096 .bf16) (x0 : Vec F S1024x1664 .bf16) (x1 : Vec F S1024x8 .f32)
    (x2 : Vec F S1x1664x512 .f32) (x3 : Vec F S1x1x512 .f32) : Vec F S1024x4096 .bf16 :=
  VecWindow.put hs (k1_off2 i) S1024x512.size (k1_pay1 (k1_pay8 x0 (k1_pay6 x2) x3) (k1_pay9 i x1))

/-- The stacked second weights' scratch with expert `i`'s rows put in. -/
def w2Next (i : grid1.Coords) (ws : Vec F S4096x1664 .bf16) (x4 : Vec F S1x512x1664 .f32) : Vec F S4096x1664 .bf16 :=
  VecWindow.put ws (k1_off1 i) S512x1664.size (k1_pay7 x4)

/-- The result's block from the full scratches: each tower's column put in. -/
def towers (o : Vec F S1024x2 .f32) (h : Vec F S1024x4096 .bf16) (w : Vec F S4096x1664 .bf16) (x1 : Vec F S1024x8 .f32)
    (x5 : Vec F S8x1664 .f32) (x6 : Vec F S2x1664x256 .f32) (x7 : Vec F S2x256 .f32) (x8 : Vec F S2x256x1 .f32)
    (x9 : Vec F S2x1 .f32) : Vec F S1024x2 .f32 :=
  VecWindow.put
    (VecWindow.put o ![0, 0] S1024x1.size
      (k1_pay4 h w x1 x5 (View.ld x6 (Rect.unit ![0, 0, 0] S1x1664x256.size inb_S2x1664x256_S1x1664x256_0_0_0))
        (View.ld x7 (Rect.unit ![0, 0] S1x256.size inb_S2x256_S1x256_0_0))
        (View.ld x8 (Rect.unit ![0, 0, 0] S1x256x1.size inb_S2x256x1_S1x256x1_0_0_0))
        (View.ld x9 (Rect.unit ![0, 0] S1x1.size inb_S2x1_S1x1_0_0))))
    ![0, 1] S1024x1.size
    (k1_pay2 (k1_pay3 h w x1 x5)
      (k1_pay5 (View.ld x6 (Rect.unit ![1, 0, 0] S1x1664x256.size inb_S2x1664x256_S1x1664x256_1_0_0)))
      (constant S1024x256 .f32 0x00000000#32)
      (View.ld x7 (Rect.unit ![1, 0] S1x256.size inb_S2x256_S1x256_1_0))
      (View.ld x8 (Rect.unit ![1, 0, 0] S1x256x1.size inb_S2x256x1_S1x256x1_1_0_0))
      (View.ld x9 (Rect.unit ![1, 0] S1x1.size inb_S2x1_S1x1_1_0)))

/-- The last expert's condition, on the grid coordinates. -/
abbrev isLast (i : grid1.Coords) : Prop := k1_cond1 i = 1#1

theorem isLast_iff (t : Fin cfg1.N) : isLast (grid1.coords t) ↔ t.val = 7 := by
  have ht : t.val < 8 := Nat.lt_of_lt_of_eq t.isLt N_1
  have e0 : (grid1.coords t 0).val = t.val / 1 % 8 := Pipeline.Grid.coords_val t 0 (by decide) rfl
  rw [show t.val = 7 ↔ t.val % 8 = 7 by omega]
  simp only [isLast, k1_cond1, e0]
  word_cmp

/-- The result's block after one run of the body over `o`: written at the last expert only. -/
def outNext (i : grid1.Coords) (o : Vec F S1024x2 .f32) (hs : Vec F S1024x4096 .bf16) (ws : Vec F S4096x1664 .bf16)
    (x0 : Vec F S1024x1664 .bf16) (x1 : Vec F S1024x8 .f32) (x2 : Vec F S1x1664x512 .f32) (x3 : Vec F S1x1x512 .f32) (x4 : Vec F S1x512x1664 .f32) (x5 : Vec F S8x1664 .f32) (x6 : Vec F S2x1664x256 .f32) (x7 : Vec F S2x256 .f32) (x8 : Vec F S2x256x1 .f32) (x9 : Vec F S2x1 .f32) : Vec F S1024x2 .f32 :=
  if isLast i then towers o (hidNext i hs x0 x1 x2 x3) (w2Next i ws x4) x1 x5 x6 x7 x8 x9 else o

set_option maxHeartbeats 400000 in
/-- One run of the body: the inputs stay, the scratches take the expert's blocks, the result is written at the last one. -/
theorem moe_run (c : Dev nD) (i : grid1.Coords)
    (arg1 : Memref sig .tc .vmem S1024x1664 .bf16) (harg1 : arg1.IsWhole)
    (arg2 : Memref sig .tc .vmem S1024x8 .f32) (harg2 : arg2.IsWhole)
    (arg3 : Memref sig .tc .vmem S1x1664x512 .f32) (harg3 : arg3.IsWhole)
    (arg4 : Memref sig .tc .vmem S1x1x512 .f32) (harg4 : arg4.IsWhole)
    (arg5 : Memref sig .tc .vmem S1x512x1664 .f32) (harg5 : arg5.IsWhole)
    (arg6 : Memref sig .tc .vmem S8x1664 .f32) (harg6 : arg6.IsWhole)
    (arg7 : Memref sig .tc .vmem S2x1664x256 .f32) (harg7 : arg7.IsWhole)
    (arg8 : Memref sig .tc .vmem S2x256 .f32) (harg8 : arg8.IsWhole)
    (arg9 : Memref sig .tc .vmem S2x256x1 .f32) (harg9 : arg9.IsWhole)
    (arg10 : Memref sig .tc .vmem S2x1 .f32) (harg10 : arg10.IsWhole)
    (arg11 : Memref sig .tc .vmem S1024x2 .f32) (harg11 : arg11.IsWhole)
    (arg12 : Memref sig .tc .vmem S1024x4096 .bf16) (harg12 : arg12.IsWhole)
    (arg13 : Memref sig .tc .vmem S1664x512 .bf16) (harg13 : arg13.IsWhole)
    (arg14 : Memref sig .tc .vmem S4096x1664 .bf16) (harg14 : arg14.IsWhole)
    (x0 : Vec F S1024x1664 .bf16) (x1 : Vec F S1024x8 .f32) (x2 : Vec F S1x1664x512 .f32) (x3 : Vec F S1x1x512 .f32) (x4 : Vec F S1x512x1664 .f32) (x5 : Vec F S8x1664 .f32) (x6 : Vec F S2x1664x256 .f32) (x7 : Vec F S2x256 .f32) (x8 : Vec F S2x256x1 .f32) (x9 : Vec F S2x1 .f32)
    (o : Vec F S1024x2 .f32) (hs : Vec F S1024x4096 .bf16) (ws : Vec F S4096x1664 .bf16)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare o
        ∗ owns (c : Thread nD τ) arg12 fullShare hs ∗ (∃ d, owns (c : Thread nD τ) arg13 fullShare d) ∗ owns (c : Thread nD τ) arg14 fullShare ws
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (outNext i o hs ws x0 x1 x2 x3 x4 x5 x6 x7 x8 x9)
            ∗ owns (c : Thread nD τ) arg12 fullShare (hidNext i hs x0 x1 x2 x3) ∗ owns (c : Thread nD τ) arg13 fullShare (k1_pay6 x2) ∗ owns (c : Thread nD τ) arg14 fullShare (w2Next i ws x4)) -∗ K ⟨⟩))
      ⊢ wp frame (wpE (defs₀ (F := F)) Variants.none c none) E
          (cc1__moe_body i arg1 harg1 arg2 harg2 arg3 harg3 arg4 harg4 arg5 harg5 arg6 harg6 arg7 harg7 arg8 harg8 arg9 harg9 arg10 harg10 arg11 harg11 arg12 harg12 arg13 harg13 arg14 harg14) K := by
  simp only [cc1__moe_body_eq_skeleton]; unfold cc1__moe_body_skel
  simp only [k1_part1_eq_skeleton, k1_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%f13, %hf13, H13⟩, Hk⟩
  subst hf0 hf1 hf2 hf3 hf4 hf5 hf6 hf7 hf8 hf9 hf10 hf11 hf13
  by_cases hc : isLast i
  all_goals
    first
      | rw [show outNext i (arg11.view.read (Elt F) f10) (arg12.view.read (Elt F) f11) (arg14.view.read (Elt F) f13) (arg1.view.read (Elt F) f0) (arg2.view.read (Elt F) f1) (arg3.view.read (Elt F) f2) (arg4.view.read (Elt F) f3) (arg5.view.read (Elt F) f4) (arg6.view.read (Elt F) f5) (arg7.view.read (Elt F) f6) (arg8.view.read (Elt F) f7) (arg9.view.read (Elt F) f8) (arg10.view.read (Elt F) f9) = _ from if_pos hc]
      | rw [show outNext i (arg11.view.read (Elt F) f10) (arg12.view.read (Elt F) f11) (arg14.view.read (Elt F) f13) (arg1.view.read (Elt F) f0) (arg2.view.read (Elt F) f1) (arg3.view.read (Elt F) f2) (arg4.view.read (Elt F) f3) (arg5.view.read (Elt F) f4) (arg6.view.read (Elt F) f5) (arg7.view.read (Elt F) f6) (arg8.view.read (Elt F) f7) (arg9.view.read (Elt F) f8) (arg10.view.read (Elt F) f9) = _ from if_neg hc]
    sl_exec (disch := first | sl_exact hc)
    sl_step
    iapply Hk
    isplitl [H0]; · iexists f0; isplitr; (· ipureintro; rfl); iexact H0
    isplitl [H1]; · iexists f1; isplitr; (· ipureintro; rfl); iexact H1
    isplitl [H2]; · iexists f2; isplitr; (· ipureintro; rfl); iexact H2
    isplitl [H3]; · iexists f3; isplitr; (· ipureintro; rfl); iexact H3
    isplitl [H4]; · iexists f4; isplitr; (· ipureintro; rfl); iexact H4
    isplitl [H5]; · iexists f5; isplitr; (· ipureintro; rfl); iexact H5
    isplitl [H6]; · iexists f6; isplitr; (· ipureintro; rfl); iexact H6
    isplitl [H7]; · iexists f7; isplitr; (· ipureintro; rfl); iexact H7
    isplitl [H8]; · iexists f8; isplitr; (· ipureintro; rfl); iexact H8
    isplitl [H9]; · iexists f9; isplitr; (· ipureintro; rfl); iexact H9
    isplitl [H10]
    · iexists _; isplitr; swap; (· iexact H10); ipureintro
      clear * -
      first
        | rfl
        | sl_unfold_run_names
          simp only [Access.after_put, View.writes_nil, Access.load_whole, Access.reload_whole, Access.load_box, towers, hidNext, w2Next]
    isplitl [H11]
    · iexists _; isplitr; swap; (· iexact H11); ipureintro
      clear * -
      first
        | rfl
        | sl_unfold_run_names
          simp only [Access.after_put, View.writes_nil, Access.load_whole, Access.reload_whole, Access.load_box, hidNext]
    isplitl [H12]
    · iexists _; isplitr; swap; (· iexact H12); ipureintro
      clear * -
      sl_unfold_run_names
      refine (View.read_writes_full _ _ _ _ _).trans ?_
      simp only [Access.load_whole]
    iexists _; isplitr; swap; (· iexact H13); ipureintro
    clear * -
    sl_unfold_run_names
    simp only [Access.after_put, View.writes_nil, Access.load_whole, w2Next]

end Cert.KernelIdeal.Run

end
-- ==== Proof.PI.MoeData.lean ====
/-
  The proof data of the mixture-of-experts region, over any contents of the arrays it finds.

  Before point `t` the first `512 t` columns of the hidden scratch hold the gated hidden layers of the experts before `t`,
  and the first `512 t` rows of the weight scratch their second weights. The last point writes the result from both.
-/
module

public import proofs.«01_k».proof.Proof.PI.MoeBody

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The block window `w` reads at point `t`, of the arrays at `W`. -/
def moeBlk (W : Valuation τ sig (Elt F)) (w : Fin cfg1.W) (t : Fin cfg1.N) :
    ((cfg1.win w).xblock (cfg1.grid.coords t)).Idx → Elt F (cfg1.win w).elt :=
  ((cfg1.win w).blk t).view.read (Elt F) (W (Proc.devRef .tc (Pipeline.arrRef spec1 w)))

/-- The gated hidden layer of the expert of point `t`. -/
def hidBlk (W : Valuation τ sig (Elt F)) (t : Fin cfg1.N) : Vec F S1024x512 .bf16 :=
  k1_pay1 (k1_pay8 (moeBlk W 0 t) (k1_pay6 (moeBlk W 2 t)) (moeBlk W 3 t)) (k1_pay9 (grid1.coords t) (moeBlk W 1 t))

/-- The second weights of the expert of point `t`. -/
def w2Blk (W : Valuation τ sig (Elt F)) (t : Fin cfg1.N) : Vec F S512x1664 .bf16 := k1_pay7 (moeBlk W 4 t)

theorem expert_lt (n : ℕ) (h : n < 4096) : n / 512 < cfg1.N := Nat.lt_of_lt_of_eq (by omega) N_1.symm

/-- The hidden scratch once every expert's columns are in. -/
def hidAll (W : Valuation τ sig (Elt F)) : Vec F S1024x4096 .bf16 := fun y =>
  hidBlk W ⟨(y 1).val / 512, expert_lt _ (y 1).isLt⟩ (fun a => match a with
    | ⟨0, _⟩ => ⟨(y 0).val, (y 0).isLt⟩
    | ⟨1, _⟩ => ⟨(y 1).val % 512, Nat.mod_lt _ (by decide)⟩)

/-- The weight scratch once every expert's rows are in. -/
def w2All (W : Valuation τ sig (Elt F)) : Vec F S4096x1664 .bf16 := fun y =>
  w2Blk W ⟨(y 0).val / 512, expert_lt _ (y 0).isLt⟩ (fun a => match a with
    | ⟨0, _⟩ => ⟨(y 0).val % 512, Nat.mod_lt _ (by decide)⟩
    | ⟨1, _⟩ => ⟨(y 1).val, (y 1).isLt⟩)

/-- The result. -/
def resAll (W : Valuation τ sig (Elt F)) : Vec F S1024x2 .f32 :=
  towers (constant S1024x2 .f32 0x00000000#32) (hidAll W) (w2All W) (moeBlk W 1 t1_7) (moeBlk W 5 t1_7) (moeBlk W 6 t1_7)
    (moeBlk W 7 t1_7) (moeBlk W 8 t1_7) (moeBlk W 9 t1_7)

/-- The first `512 n` columns of a hidden scratch are filled. -/
def HidTo (W : Valuation τ sig (Elt F)) (n : ℕ) (hs : Vec F S1024x4096 .bf16) : Prop :=
  ∀ y : S1024x4096.Idx, (y 1).val < 512 * n → hs y = hidAll W y

/-- The first `512 n` rows of a weight scratch are filled. -/
def W2To (W : Valuation τ sig (Elt F)) (n : ℕ) (ws : Vec F S4096x1664 .bf16) : Prop :=
  ∀ y : S4096x1664.Idx, (y 0).val < 512 * n → ws y = w2All W y

theorem off1_eq (t : Fin cfg1.N) : k1_off1 (grid1.coords t) = ![512 * t.val, 0] := by
  obtain rfl | rfl | rfl | rfl | rfl | rfl | rfl | rfl := fin_N1 t <;> decide

theorem off2_eq (t : Fin cfg1.N) : k1_off2 (grid1.coords t) = ![0, 512 * t.val] := by
  obtain rfl | rfl | rfl | rfl | rfl | rfl | rfl | rfl := fin_N1 t <;> decide

/-- Expert `t`'s run fills its columns. -/
theorem hid_step (W : Valuation τ sig (Elt F)) (t : Fin cfg1.N) (hs : Vec F S1024x4096 .bf16) (h : HidTo W t.val hs) :
    HidTo W (t.val + 1) (hidNext (grid1.coords t) hs (moeBlk W 0 t) (moeBlk W 1 t) (moeBlk W 2 t) (moeBlk W 3 t)) := by
  intro y hy
  unfold hidNext
  rw [off2_eq]
  unfold VecWindow.put
  by_cases hb : 512 * t.val ≤ (y 1).val
  · rw [dif_pos (fun a => by
      match a with
      | ⟨0, _⟩ => exact ⟨Nat.zero_le _, by show (y 0).val < 0 + 1024; have h0 : (y 0).val < 1024 := (y 0).isLt; omega⟩
      | ⟨1, _⟩ => exact ⟨hb, by show (y 1).val < 512 * t.val + 512; omega⟩)]
    unfold hidAll
    have ht : (⟨(y 1).val / 512, expert_lt _ (y 1).isLt⟩ : Fin cfg1.N) = t := Fin.ext (by show (y 1).val / 512 = t.val; omega)
    rw [ht]
    unfold hidBlk
    refine congrArg _ (funext fun a => ?_)
    match a with
    | ⟨0, _⟩ => exact Fin.ext (by show (y 0).val - 0 = (y 0).val; omega)
    | ⟨1, _⟩ => exact Fin.ext (by show (y 1).val - 512 * t.val = (y 1).val % 512; omega)
  · rw [dif_neg (fun hall => hb (hall 1).1)]
    exact h y (by omega)

/-- Expert `t`'s run fills its rows. -/
theorem w2_step (W : Valuation τ sig (Elt F)) (t : Fin cfg1.N) (ws : Vec F S4096x1664 .bf16) (h : W2To W t.val ws) :
    W2To W (t.val + 1) (w2Next (grid1.coords t) ws (moeBlk W 4 t)) := by
  intro y hy
  unfold w2Next
  rw [off1_eq]
  unfold VecWindow.put
  by_cases hb : 512 * t.val ≤ (y 0).val
  · rw [dif_pos (fun a => by
      match a with
      | ⟨0, _⟩ => exact ⟨hb, by show (y 0).val < 512 * t.val + 512; omega⟩
      | ⟨1, _⟩ => exact ⟨Nat.zero_le _, by show (y 1).val < 0 + 1664; have h1 : (y 1).val < 1664 := (y 1).isLt; omega⟩)]
    unfold w2All
    have ht : (⟨(y 0).val / 512, expert_lt _ (y 0).isLt⟩ : Fin cfg1.N) = t := Fin.ext (by show (y 0).val / 512 = t.val; omega)
    rw [ht]
    unfold w2Blk
    refine congrArg _ (funext fun a => ?_)
    match a with
    | ⟨0, _⟩ => exact Fin.ext (by show (y 0).val - 512 * t.val = (y 0).val % 512; omega)
    | ⟨1, _⟩ => exact Fin.ext (by show (y 1).val - 0 = (y 1).val; omega)
  · rw [dif_neg (fun hall => hb (hall 0).1)]
    exact h y (by omega)

/-- Both columns of the result are written, so what the block held before does not matter. -/
theorem towers_over (o o' : Vec F S1024x2 .f32) (h : Vec F S1024x4096 .bf16) (w : Vec F S4096x1664 .bf16) (x1 : Vec F S1024x8 .f32)
    (x5 : Vec F S8x1664 .f32) (x6 : Vec F S2x1664x256 .f32) (x7 : Vec F S2x256 .f32) (x8 : Vec F S2x256x1 .f32)
    (x9 : Vec F S2x1 .f32) : towers o h w x1 x5 x6 x7 x8 x9 = towers o' h w x1 x5 x6 x7 x8 x9 := by
  unfold towers
  generalize k1_pay4 (F := F) _ _ _ _ _ _ _ _ = p
  generalize k1_pay2 (F := F) _ _ _ _ _ _ = q
  funext y
  by_cases h1 : (y 1).val = 1
  · unfold VecWindow.put
    have hin : ∀ a, (![0, 1] : Fin 2 → ℕ) a ≤ (y a).val ∧ (y a).val < (![0, 1] : Fin 2 → ℕ) a + S1024x1.size a := fun a => by
      match a with
      | ⟨0, _⟩ => exact ⟨Nat.zero_le _, by show (y 0).val < 0 + 1024; have h0 : (y 0).val < 1024 := (y 0).isLt; omega⟩
      | ⟨1, _⟩ => exact ⟨by show 1 ≤ (y 1).val; omega, by show (y 1).val < 1 + 1; omega⟩
    rw [dif_pos hin, dif_pos hin]
  · have h0 : (y 1).val = 0 := by
      have h2 : (y 1).val < 2 := (y 1).isLt
      omega
    unfold VecWindow.put
    have hout : ¬ ∀ a, (![0, 1] : Fin 2 → ℕ) a ≤ (y a).val ∧ (y a).val < (![0, 1] : Fin 2 → ℕ) a + S1024x1.size a := fun hall => by
      have h1' : 1 ≤ (y 1).val := (hall 1).1
      omega
    have hin : ∀ a, (![0, 0] : Fin 2 → ℕ) a ≤ (y a).val ∧ (y a).val < (![0, 0] : Fin 2 → ℕ) a + S1024x1.size a := fun a => by
      match a with
      | ⟨0, _⟩ => exact ⟨Nat.zero_le _, by show (y 0).val < 0 + 1024; have h0 : (y 0).val < 1024 := (y 0).isLt; omega⟩
      | ⟨1, _⟩ => exact ⟨Nat.zero_le _, by show (y 1).val < 0 + 1; omega⟩
    rw [dif_neg hout, dif_neg hout, dif_pos hin, dif_pos hin]

/-- The last expert's run writes the result, whatever the block held. -/
theorem out_last (W : Valuation τ sig (Elt F)) (t : Fin cfg1.N) (ht : t.val = 7) (o : Vec F S1024x2 .f32)
    (hs : Vec F S1024x4096 .bf16) (ws : Vec F S4096x1664 .bf16) (hh : HidTo W t.val hs) (hw : W2To W t.val ws) :
    outNext (grid1.coords t) o hs ws (moeBlk W 0 t) (moeBlk W 1 t) (moeBlk W 2 t) (moeBlk W 3 t) (moeBlk W 4 t)
      (moeBlk W 5 t) (moeBlk W 6 t) (moeBlk W 7 t) (moeBlk W 8 t) (moeBlk W 9 t) = resAll W := by
  unfold outNext
  rw [if_pos ((isLast_iff t).mpr ht)]
  have eh : hidNext (grid1.coords t) hs (moeBlk W 0 t) (moeBlk W 1 t) (moeBlk W 2 t) (moeBlk W 3 t) = hidAll W :=
    funext fun y => hid_step W t hs hh y (by rw [ht]; exact (y 1).isLt)
  have ew : w2Next (grid1.coords t) ws (moeBlk W 4 t) = w2All W :=
    funext fun y => w2_step W t ws hw y (by rw [ht]; exact (y 0).isLt)
  rw [eh, ew]
  obtain rfl : t = t1_7 := Fin.ext ht
  exact towers_over _ _ _ _ _ _ _ _ _ _

/-- The invariant before position `n`: the hidden and weight scratches filled up to expert `n`, the first weights' scratch
    at anything, and what gives the rest of the scoped buffers back when the three are returned. -/
def moeInv (W : Valuation τ sig (Elt F)) (c : Dev nD) (n : ℕ) : sProp 𝕄 :=
  iprop((∃ hs, ⌜HidTo W n hs⌝ ∗ owns (c : Thread nD τ) (Memref.whole cc1_scratch0) fullShare hs)
    ∗ (∃ d, owns (c : Thread nD τ) (Memref.whole cc1_scratch1) fullShare d)
    ∗ (∃ ws, ⌜W2To W n ws⌝ ∗ owns (c : Thread nD τ) (Memref.whole cc1_scratch2) fullShare ws)
    ∗ (iprop((∃ d, owns (c : Thread nD τ) (Memref.whole cc1_scratch0) fullShare d)
          ∗ (∃ d, owns (c : Thread nD τ) (Memref.whole cc1_scratch1) fullShare d)
          ∗ (∃ d, owns (c : Thread nD τ) (Memref.whole cc1_scratch2) fullShare d))
        -∗ Pipeline.scopedRest (Ix := Unit) (Name := ℕ) (U := UR sig nD τ) (Lvl := ℕ) (Val := Elt F) spec1 c))

/-- The proof data: the arrays as found; each input's buffer at its block, the output's at the result; nothing owed; full
    shares. -/
def moeDat (W : Valuation τ sig (Elt F)) (c : Dev nD) : Dat τ (Elt F) Unit ℕ (UR sig nD τ) ℕ cfg1 c where
  A w := W (Proc.devRef .tc (Pipeline.arrRef spec1 w))
  after w t := match w with
    | ⟨0, _⟩ => moeBlk W 0 t
    | ⟨1, _⟩ => moeBlk W 1 t
    | ⟨2, _⟩ => moeBlk W 2 t
    | ⟨3, _⟩ => moeBlk W 3 t
    | ⟨4, _⟩ => moeBlk W 4 t
    | ⟨5, _⟩ => moeBlk W 5 t
    | ⟨6, _⟩ => moeBlk W 6 t
    | ⟨7, _⟩ => moeBlk W 7 t
    | ⟨8, _⟩ => moeBlk W 8 t
    | ⟨9, _⟩ => moeBlk W 9 t
    | ⟨10, _⟩ => resAll W
  Φ t := moeInv W c t.val
  q _ := fullShare
  owed _ := 0

theorem moeDat_A (W : Valuation τ sig (Elt F)) (c : Dev nD) (w : Fin cfg1.W) :
    (moeDat W c).A w = W (Proc.devRef .tc (Pipeline.arrRef spec1 w)) := by
  dsimp only [moeDat]

/-- An input's staging buffer, left at its block by every point, holds the point's block when the body runs. -/
theorem moe_staged (W : Valuation τ sig (Elt F)) (c : Dev nD) (w : Fin cfg1.W) (hin : (cfg1.win w).isOut = false)
    (hlive : ∀ i, cfg1.idle w i = false)
    (hclip : ∀ t t' : Fin cfg1.N, (cfg1.win w).index t = (cfg1.win w).index t' →
      (cfg1.win w).clip (cfg1.grid.coords t) = (cfg1.win w).clip (cfg1.grid.coords t'))
    (hafter : ∀ t, (cfg1.win w).cut (cfg1.grid.coords t) ((moeDat W c).after w t) = moeBlk W w t) (t : Fin cfg1.N) (d) :
    (moeDat W c).before w t d = (cfg1.win w).fill (cfg1.grid.coords t) d (moeBlk W w t) :=
  ((moeDat W c).before_in_eq_fetched w hin hlive hclip
      (fun t => (hafter t).trans (by unfold Dat.blockOf moeBlk; rw [moeDat_A])) t d).trans
    (by unfold Dat.fetched Dat.blockOf moeBlk; rw [moeDat_A])

theorem moe_before0 (W : Valuation τ sig (Elt F)) (c : Dev nD) (t : Fin cfg1.N) (d) :
    (moeDat W c).before 0 t d = moeBlk W 0 t :=
  moe_staged W c 0 rfl (fun _ => rfl) (fun _ _ _ => rfl) (fun _ => by dsimp only [moeDat]) t d
theorem moe_before1 (W : Valuation τ sig (Elt F)) (c : Dev nD) (t : Fin cfg1.N) (d) :
    (moeDat W c).before 1 t d = moeBlk W 1 t :=
  moe_staged W c 1 rfl (fun _ => rfl) (fun _ _ _ => rfl) (fun _ => by dsimp only [moeDat]) t d
theorem moe_before2 (W : Valuation τ sig (Elt F)) (c : Dev nD) (t : Fin cfg1.N) (d) :
    (moeDat W c).before 2 t d = moeBlk W 2 t :=
  moe_staged W c 2 rfl (fun _ => rfl) (fun _ _ _ => rfl) (fun _ => by dsimp only [moeDat]) t d
theorem moe_before3 (W : Valuation τ sig (Elt F)) (c : Dev nD) (t : Fin cfg1.N) (d) :
    (moeDat W c).before 3 t d = moeBlk W 3 t :=
  moe_staged W c 3 rfl (fun _ => rfl) (fun _ _ _ => rfl) (fun _ => by dsimp only [moeDat]) t d
theorem moe_before4 (W : Valuation τ sig (Elt F)) (c : Dev nD) (t : Fin cfg1.N) (d) :
    (moeDat W c).before 4 t d = moeBlk W 4 t :=
  moe_staged W c 4 rfl (fun _ => rfl) (fun _ _ _ => rfl) (fun _ => by dsimp only [moeDat]) t d
theorem moe_before5 (W : Valuation τ sig (Elt F)) (c : Dev nD) (t : Fin cfg1.N) (d) :
    (moeDat W c).before 5 t d = moeBlk W 5 t :=
  moe_staged W c 5 rfl (fun _ => rfl) (fun _ _ _ => rfl) (fun _ => by dsimp only [moeDat]) t d
theorem moe_before6 (W : Valuation τ sig (Elt F)) (c : Dev nD) (t : Fin cfg1.N) (d) :
    (moeDat W c).before 6 t d = moeBlk W 6 t :=
  moe_staged W c 6 rfl (fun _ => rfl) (fun _ _ _ => rfl) (fun _ => by dsimp only [moeDat]) t d
theorem moe_before7 (W : Valuation τ sig (Elt F)) (c : Dev nD) (t : Fin cfg1.N) (d) :
    (moeDat W c).before 7 t d = moeBlk W 7 t :=
  moe_staged W c 7 rfl (fun _ => rfl) (fun _ _ _ => rfl) (fun _ => by dsimp only [moeDat]) t d
theorem moe_before8 (W : Valuation τ sig (Elt F)) (c : Dev nD) (t : Fin cfg1.N) (d) :
    (moeDat W c).before 8 t d = moeBlk W 8 t :=
  moe_staged W c 8 rfl (fun _ => rfl) (fun _ _ _ => rfl) (fun _ => by dsimp only [moeDat]) t d
theorem moe_before9 (W : Valuation τ sig (Elt F)) (c : Dev nD) (t : Fin cfg1.N) (d) :
    (moeDat W c).before 9 t d = moeBlk W 9 t :=
  moe_staged W c 9 rfl (fun _ => rfl) (fun _ _ _ => rfl) (fun _ => by dsimp only [moeDat]) t d

/-- The body's table row is the body at the point's staging buffers. -/
theorem row1 (t : Fin cfg1.N) : defs₀ (F := F) .tc cfg1.body (cfg1.bodyArgs t (cfg1.slots t)) = bodyAt1 t := by
  unfold defs₀; rw [Defs.onTc_tc]

set_option maxHeartbeats 1000000 in
/-- The body at any point takes the invariant and the staged blocks to the next invariant; at the last point the output's
    buffer is at the result, before it as found. -/
theorem moe_point (W : Valuation τ sig (Elt F)) (c : Dev nD) (t : Fin cfg1.N) :
    iprop((moeDat W c).Φ t.castSucc ∗ (moeDat W c).owesAt () t.castSucc
      ∗ (∃ d, owns (c : Thread nD τ) (st1_0 t) fullShare ((moeDat W c).before 0 t d))
      ∗ (∃ d, owns (c : Thread nD τ) (st1_1 t) fullShare ((moeDat W c).before 1 t d))
      ∗ (∃ d, owns (c : Thread nD τ) (st1_2 t) fullShare ((moeDat W c).before 2 t d))
      ∗ (∃ d, owns (c : Thread nD τ) (st1_3 t) fullShare ((moeDat W c).before 3 t d))
      ∗ (∃ d, owns (c : Thread nD τ) (st1_4 t) fullShare ((moeDat W c).before 4 t d))
      ∗ (∃ d, owns (c : Thread nD τ) (st1_5 t) fullShare ((moeDat W c).before 5 t d))
      ∗ (∃ d, owns (c : Thread nD τ) (st1_6 t) fullShare ((moeDat W c).before 6 t d))
      ∗ (∃ d, owns (c : Thread nD τ) (st1_7 t) fullShare ((moeDat W c).before 7 t d))
      ∗ (∃ d, owns (c : Thread nD τ) (st1_8 t) fullShare ((moeDat W c).before 8 t d))
      ∗ (∃ d, owns (c : Thread nD τ) (st1_9 t) fullShare ((moeDat W c).before 9 t d))
      ∗ (∃ d, owns (c : Thread nD τ) (st1_10 t) fullShare ((moeDat W c).before 10 t d)))
      ⊢ wp frame (wpE (defs₀ (F := F)) Variants.none c none) Set.univ (bodyAt1 t) (fun _ =>
    iprop((moeDat W c).Φ t.succ ∗ (moeDat W c).owesAt () t.succ
      ∗ owns (c : Thread nD τ) (st1_0 t) fullShare ((moeDat W c).after 0 t)
      ∗ owns (c : Thread nD τ) (st1_1 t) fullShare ((moeDat W c).after 1 t)
      ∗ owns (c : Thread nD τ) (st1_2 t) fullShare ((moeDat W c).after 2 t)
      ∗ owns (c : Thread nD τ) (st1_3 t) fullShare ((moeDat W c).after 3 t)
      ∗ owns (c : Thread nD τ) (st1_4 t) fullShare ((moeDat W c).after 4 t)
      ∗ owns (c : Thread nD τ) (st1_5 t) fullShare ((moeDat W c).after 5 t)
      ∗ owns (c : Thread nD τ) (st1_6 t) fullShare ((moeDat W c).after 6 t)
      ∗ owns (c : Thread nD τ) (st1_7 t) fullShare ((moeDat W c).after 7 t)
      ∗ owns (c : Thread nD τ) (st1_8 t) fullShare ((moeDat W c).after 8 t)
      ∗ owns (c : Thread nD τ) (st1_9 t) fullShare ((moeDat W c).after 9 t)
      ∗ (moeDat W c).leavesExact 10 t)) := by
  unfold bodyAt1
  have hN : t.val < 8 := Nat.lt_of_lt_of_eq t.isLt N_1
  have hleave : (iprop(∃ o, ⌜∃ d, o = (if t.val = 7 then resAll W else (moeDat W c).before 10 t d)⌝
        ∗ owns (c : Thread nD τ) (st1_10 t) fullShare o) : sProp 𝕄) ⊢ (moeDat W c).leavesExact 10 t := by
    by_cases ht : t.val = 7
    · have hi : cfg1.idle 10 (cfg1.grid.coords t) = false := by
        have hc : k1_cond1 (grid1.coords t) = 1#1 := (isLast_iff t).mpr ht
        show (!(k1_cond1 (grid1.coords t) == 1#1)) = false
        rw [hc]; rfl
      unfold Dat.leavesExact
      rw [hi]
      iintro ⟨%o, ⟨%d, %ho⟩, H⟩
      rw [if_pos ht] at ho
      subst ho
      dsimp only [moeDat]
      iexact H
    · have hi : cfg1.idle 10 (cfg1.grid.coords t) = true := by
        have hc : ¬ k1_cond1 (grid1.coords t) = 1#1 := fun h => ht ((isLast_iff t).mp h)
        show (!(k1_cond1 (grid1.coords t) == 1#1)) = true
        rw [beq_eq_false_iff_ne.mpr hc]; rfl
      have hf : (cfg1.win 10).flush t = false := by
        rw [Bool.eq_false_iff]; intro h; have := (flush1_10 t).mp h; omega
      rw [(moeDat W c).leavesExact_idle 10 t hi hf]
      iintro ⟨%o, ⟨%d, %ho⟩, H⟩
      rw [if_neg ht] at ho
      subst ho
      iexists d
      iexact H
  simp only [moe_before0, moe_before1, moe_before2, moe_before3, moe_before4, moe_before5, moe_before6, moe_before7, moe_before8, moe_before9]
  rw [show (moeDat W c).owesAt () t.succ = (moeDat W c).owesAt () t.castSucc from rfl,
    show (moeDat W c).Φ t.castSucc = moeInv W c t.val from rfl,
    show (moeDat W c).Φ t.succ = moeInv W c (t.val + 1) from rfl,
    show (moeDat W c).after 0 t = moeBlk W 0 t from by dsimp only [moeDat], show (moeDat W c).after 1 t = moeBlk W 1 t from by dsimp only [moeDat], show (moeDat W c).after 2 t = moeBlk W 2 t from by dsimp only [moeDat], show (moeDat W c).after 3 t = moeBlk W 3 t from by dsimp only [moeDat], show (moeDat W c).after 4 t = moeBlk W 4 t from by dsimp only [moeDat], show (moeDat W c).after 5 t = moeBlk W 5 t from by dsimp only [moeDat], show (moeDat W c).after 6 t = moeBlk W 6 t from by dsimp only [moeDat], show (moeDat W c).after 7 t = moeBlk W 7 t from by dsimp only [moeDat], show (moeDat W c).after 8 t = moeBlk W 8 t from by dsimp only [moeDat], show (moeDat W c).after 9 t = moeBlk W 9 t from by dsimp only [moeDat]]
  unfold moeInv
  iintro ⟨⟨⟨%hs, %hhs, HS0⟩, HS1, ⟨%ws, %hws, HS2⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (moe_run c (grid1.coords t) _ _ _ _ _ _ _ _ _ _ _ _ _ _ _ _ _ _ _ _ _ _ _ _ _ _ _ _ (moeBlk W 0 t) (moeBlk W 1 t) (moeBlk W 2 t) (moeBlk W 3 t) (moeBlk W 4 t) (moeBlk W 5 t) (moeBlk W 6 t) (moeBlk W 7 t) (moeBlk W 8 t) (moeBlk W 9 t) ((moeDat W c).before 10 t d10) hs ws)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS0]; · iexact HS0
  isplitl [HS1]; · iexact HS1
  isplitl [HS2]; · iexact HS2
  iintro ⟨H0, H1, H2, H3, H4, H5, H6, H7, H8, H9, H10, HS0, HS1, HS2⟩
  isplitl [HS0 HS1 HS2 Hr]
  · isplitl [HS0]
    · iexists _
      isplitr
      swap; · iexact HS0
      ipureintro; exact hid_step W t hs hhs
    isplitl [HS1]; · iexists _; iexact HS1
    isplitl [HS2]
    · iexists _
      isplitr
      swap; · iexact HS2
      ipureintro; exact w2_step W t ws hws
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iapply hleave
  iexists _
  isplitr
  swap; · iexact H10
  ipureintro
  refine ⟨d10, ?_⟩
  by_cases ht : t.val = 7
  · rw [if_pos ht]; exact out_last W t ht _ hs ws hhs hws
  · rw [if_neg ht]; exact if_neg (fun h => ht ((isLast_iff t).mp h))

/-- The library's body obligation. -/
theorem moe_obligation (W : Valuation τ sig (Elt F)) (c : Dev nD) :
    BodyObligation (moeDat W c) (defs₀ (F := F)) Variants.none () Set.univ := fun t => by
  rw [bigSep_W1, bigSep_W1, row1]
  exact triple_restated (moe_point W c t) rfl .rfl fun _ => .rfl

/-- The scoped buffers make the invariant before the first point. -/
theorem moe_in (W : Valuation τ sig (Elt F)) (c : Dev nD) :
    iprop(Pipeline.scopedRest (Ix := Unit) (Name := ℕ) (U := UR sig nD τ) (Lvl := ℕ) (Val := Elt F) spec1 c ∗ emp)
      ⊢ (moeDat W c).Φ 0 := by
  rw [show (moeDat W c).Φ 0 = moeInv W c 0 from rfl]
  unfold moeInv
  rw [scopedRest1_eq]
  simp only [owns_whole]
  iintro ⟨⟨R0, R1, R2, R3, R4, R5, R6, R7, R8, R9, R10, R11, R12, R13, R14, ⟨%f0, HS0⟩, HS1, ⟨%f2, HS2⟩⟩, -⟩
  isplitl [HS0]
  · iexists f0
    isplitr
    swap; · iexact HS0
    ipureintro; exact fun y hy => absurd hy (by omega)
  isplitl [HS1]; · iexact HS1
  isplitl [HS2]
  · iexists f2
    isplitr
    swap; · iexact HS2
    ipureintro; exact fun y hy => absurd hy (by omega)
  iintro ⟨HS0, HS1, HS2⟩
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  isplitl [R13]; · iexact R13
  isplitl [R14]; · iexact R14
  isplitl [HS0]; · iexact HS0
  isplitl [HS1]; · iexact HS1
  iexact HS2

/-- The invariant after the last point gives the scoped buffers back. -/
theorem moe_out (W : Valuation τ sig (Elt F)) (c : Dev nD) :
    (moeDat W c).Φ (Fin.last cfg1.N)
      ⊢ iprop(Pipeline.scopedRest (Ix := Unit) (Name := ℕ) (U := UR sig nD τ) (Lvl := ℕ) (Val := Elt F) spec1 c ∗ emp) := by
  rw [show (moeDat W c).Φ (Fin.last cfg1.N) = moeInv W c cfg1.N from rfl]
  unfold moeInv
  iintro ⟨⟨%hs, -, HS0⟩, HS1, ⟨%ws, -, HS2⟩, Hr⟩
  isplitl [HS0 HS1 HS2 Hr]
  · iapply Hr
    isplitl [HS0]; · iexists hs; iexact HS0
    isplitl [HS1]; · iexact HS1
    iexists ws
    iexact HS2
  iempintro

end Cert.KernelIdeal.Run

end
-- ==== Proof.PI.Launch.lean ====
/-
  The launch of the whole program: the host stretches and the two regions in order, and what every buffer outside the
  kernels' scopes holds at the end.
-/
module

public import proofs.«01_k».proof.Proof.Gen.KernelIdeal.Regions
public import proofs.«01_k».proof.Proof.PI.RouteData
public import proofs.«01_k».proof.Proof.PI.MoeData
public import Idealize.ShloMosaic.Lib.Pipeline.RegionArrays

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The buffers' contents -/

/-- After the first region: the token and combine arrays as the region's write-backs leave them. -/
def Y6 (c : Dev nD) : Valuation τ sig (Elt F) :=
  Function.update (Function.update (V5 m c) main_v37_0 ((routeDat (V5 m c) c).arrAt 9 cfg0.N)) main_v37_1
    ((routeDat (V5 m c) c).arrAt 10 cfg0.N)

/-- After the host operation between the regions. -/
def Y7 (c : Dev nD) : Valuation τ sig (Elt F) := StableHlo.after hostOps1 (Y6 m c)

/-- After the second region: the result as its write-back leaves it. -/
def Y8 (c : Dev nD) : Valuation τ sig (Elt F) :=
  Function.update (Y7 m c) main_v39 ((moeDat (Y7 m c) c).arrAt 10 cfg1.N)

/-- What the regions leave, in the shape the valuations between the items are written over. -/
def left (j : ℕ) (r : Ref sig .tc) (c : Dev nD) : Buf (Elt F) ((c : Thread nD τ).loc r) :=
  if j = 6 then Y6 m c (Proc.devRef .tc r) else Y8 m c (Proc.devRef .tc r)

theorem Y6_tok (c : Dev nD) : Y6 m c (Proc.devRef .tc main_v37_0) = (routeDat (V5 m c) c).arrAt 9 cfg0.N := by
  unfold Y6
  rw [Function.update_of_ne (by decide : Proc.devRef (τ := τ) .tc main_v37_0 ≠ Proc.devRef .tc main_v37_1)]
  exact Function.update_self _ _ _

theorem Y6_comb (c : Dev nD) : Y6 m c (Proc.devRef .tc main_v37_1) = (routeDat (V5 m c) c).arrAt 10 cfg0.N := by
  unfold Y6
  exact Function.update_self _ _ _

theorem Y8_res (c : Dev nD) : Y8 m c (Proc.devRef .tc main_v39) = (moeDat (Y7 m c) c).arrAt 10 cfg1.N := by
  unfold Y8
  exact Function.update_self _ _ _

theorem V6_left (c : Dev nD) : V6 m (left m) c = Y6 m c := by
  unfold V6
  rw [show left m 6 main_v37_0 c = (routeDat (V5 m c) c).arrAt 9 cfg0.N from (if_pos rfl).trans (Y6_tok m c),
    show left m 6 main_v37_1 c = (routeDat (V5 m c) c).arrAt 10 cfg0.N from (if_pos rfl).trans (Y6_comb m c)]
  rfl

theorem V7_left (c : Dev nD) : V7 m (left m) c = Y7 m c := by
  unfold V7 Y7
  rw [V6_left]

theorem V8_left (c : Dev nD) : V8 m (left m) c = Y8 m c := by
  unfold V8
  rw [V7_left, show left m 8 main_v39 c = (moeDat (Y7 m c) c).arrAt 10 cfg1.N from (if_neg (by decide)).trans (Y8_res m c)]
  rfl

/-! ## The regions -/

/-- The proof data of both regions, each over what the program has left before it. -/
def pdats (p : Fin 2) (c : Dev nD) : Dat τ (Elt F) Unit ℕ (UR sig nD τ) ℕ (cfgs p) c :=
  match p with
  | ⟨0, _⟩ => routeDat (V5 m c) c
  | ⟨1, _⟩ => moeDat (Y7 m c) c

/-- Every cell of a TensorCore is given the one level. -/
abbrev lev : GSem nD τ sig → Finset Unit := fun g => if g.1.2 = .tc then {()} else ∅
abbrev lvl : GSem nD τ sig → Unit → ℕ := fun _ _ => 0

/-- What rides beside the buffers: the core owes nothing. -/
abbrev idleAt (_ : Fin 3) (c : Dev nD) : sProp 𝕄 := iprop(∃ W, owes (c : Thread nD τ) (0 : CellTallies nD τ sig Unit) W)

theorem cut (p : Fin 2) : Pipeline.LevelCut (pcfgs (F := F)) adm () lev lvl p (fun _ => 0) (fun _ => 0) where
  hι c w s := by
    show () ∈ (if ((c : Thread nD τ)).2 = .tc then ({()} : Finset Unit) else ∅)
    rw [if_pos rfl]; exact Finset.mem_singleton.mpr rfl
  hιb _ _ _ := le_refl _
  hD c g i h := absurd h (by simp)

/-- The first region leaves every array but its two outputs as it found it. -/
theorem route_left (c : Dev nD) (w : Fin cfg0.W) :
    (routeDat (V5 m c) c).arrAt w cfg0.N = Y6 m c (Proc.devRef .tc (Pipeline.arrRef spec0 w)) := by
  have keep (w : Fin cfg0.W) (hw : (cfg0.win w).isOut = false)
      (h : Pipeline.arrRef spec0 w ∉ [main_v37_0, main_v37_1]) :
      (routeDat (V5 m c) c).arrAt w cfg0.N = Y6 m c (Proc.devRef .tc (Pipeline.arrRef spec0 w)) := by
    rw [(routeDat (V5 m c) c).arrAt_in w hw, routeDat_A, ← V6_left]
    exact (V6_of m (left m) c _ h).symm
  match w with
  | ⟨0, _⟩ => exact keep 0 rfl (by decide)
  | ⟨1, _⟩ => exact keep 1 rfl (by decide)
  | ⟨2, _⟩ => exact keep 2 rfl (by decide)
  | ⟨3, _⟩ => exact keep 3 rfl (by decide)
  | ⟨4, _⟩ => exact keep 4 rfl (by decide)
  | ⟨5, _⟩ => exact keep 5 rfl (by decide)
  | ⟨6, _⟩ => exact keep 6 rfl (by decide)
  | ⟨7, _⟩ => exact keep 7 rfl (by decide)
  | ⟨8, _⟩ => exact keep 8 rfl (by decide)
  | ⟨9, _⟩ => exact (Y6_tok m c).symm
  | ⟨10, _⟩ => exact (Y6_comb m c).symm

/-- The second region leaves every array but the result as it found it. -/
theorem moe_left (c : Dev nD) (w : Fin cfg1.W) :
    (moeDat (Y7 m c) c).arrAt w cfg1.N = Y8 m c (Proc.devRef .tc (Pipeline.arrRef spec1 w)) := by
  have keep (w : Fin cfg1.W) (hw : (cfg1.win w).isOut = false) (h : Pipeline.arrRef spec1 w ∉ [main_v39]) :
      (moeDat (Y7 m c) c).arrAt w cfg1.N = Y8 m c (Proc.devRef .tc (Pipeline.arrRef spec1 w)) := by
    rw [(moeDat (Y7 m c) c).arrAt_in w hw, moeDat_A, ← V7_left, ← V8_left]
    exact (V8_of m (left m) c _ h).symm
  match w with
  | ⟨0, _⟩ => exact keep 0 rfl (by decide)
  | ⟨1, _⟩ => exact keep 1 rfl (by decide)
  | ⟨2, _⟩ => exact keep 2 rfl (by decide)
  | ⟨3, _⟩ => exact keep 3 rfl (by decide)
  | ⟨4, _⟩ => exact keep 4 rfl (by decide)
  | ⟨5, _⟩ => exact keep 5 rfl (by decide)
  | ⟨6, _⟩ => exact keep 6 rfl (by decide)
  | ⟨7, _⟩ => exact keep 7 rfl (by decide)
  | ⟨8, _⟩ => exact keep 8 rfl (by decide)
  | ⟨9, _⟩ => exact keep 9 rfl (by decide)
  | ⟨10, _⟩ => exact (Y8_res m c).symm

theorem arrs_sub0 : Pipeline.arrRefs (τ := τ) spec0 ⊆ Pipeline.ucRefs τ sig :=
  Pipeline.arrRefs_sub_ucRefs spec0 (by decide)

theorem arrs_sub1 : Pipeline.arrRefs (τ := τ) spec1 ⊆ Pipeline.ucRefs τ sig :=
  Pipeline.arrRefs_sub_ucRefs spec1 (by decide)

/-- A buffer that is no array of the first region's windows keeps its contents over the region. -/
theorem rest0 (c : Dev nD) (b : DevRef τ sig) (hb : b ∈ Pipeline.ucRefs τ sig \ Pipeline.arrRefs (τ := τ) spec0) :
    V5 m c b = Y6 m c b := by
  have hn := (Finset.mem_sdiff.mp hb).2
  have h0 : b ≠ Proc.devRef .tc main_v37_0 := fun h => hn (h ▸
    Finset.mem_map.mpr ⟨main_v37_0, Finset.mem_image.mpr ⟨9, Finset.mem_univ _, rfl⟩, rfl⟩)
  have h1 : b ≠ Proc.devRef .tc main_v37_1 := fun h => hn (h ▸
    Finset.mem_map.mpr ⟨main_v37_1, Finset.mem_image.mpr ⟨10, Finset.mem_univ _, rfl⟩, rfl⟩)
  unfold Y6
  rw [Function.update_of_ne h1, Function.update_of_ne h0]

/-- The same of the second region. -/
theorem rest1 (c : Dev nD) (b : DevRef τ sig) (hb : b ∈ Pipeline.ucRefs τ sig \ Pipeline.arrRefs (τ := τ) spec1) :
    Y7 m c b = Y8 m c b := by
  have hn := (Finset.mem_sdiff.mp hb).2
  have h0 : b ≠ Proc.devRef .tc main_v39 := fun h => hn (h ▸
    Finset.mem_map.mpr ⟨main_v39, Finset.mem_image.mpr ⟨10, Finset.mem_univ _, rfl⟩, rfl⟩)
  unfold Y8
  rw [Function.update_of_ne h0]

set_option backward.isDefEq.respectTransparency.types false in
/-- The first region, entered from the arrays as the host operations leave them. -/
def reg0 : RegionSeg (pcfgs (F := F)) adm (pdats m) () defs₀ Variants.none lev lvl 0 :=
  RegionSeg.ofHeld (pcfgs (F := F)) adm (pdats m) () defs₀ Variants.none lev lvl 0 (fun _ => 0)
    (fun _ => iprop(emp)) (fun _ => iprop(emp)) launch0.toP rfl
    (fun c => (route_obligation (V5 m c) c).loose) (fun _ _ => rfl) (fun _ => rfl)
    (fun c w => (routeDat (V5 m c) c).share_full (fun _ => rfl) w)
    (fun c => route_in (V5 m c) c) (fun c => route_out (V5 m c) c) (fun _ => 0) (cut 0)
    (fun c => StableHlo.held (c : Thread nD τ) (Pipeline.ucRefs τ sig \ Pipeline.arrRefs (τ := τ) spec0) (V5 m c))
    (fun c => V5 m c) (fun c => Y6 m c) (fun c w => routeDat_A (V5 m c) c w) (fun c w => route_left m c w)

set_option backward.isDefEq.respectTransparency.types false in
/-- The second region, entered from the arrays as the first and the host operation leave them. -/
def reg1 : RegionSeg (pcfgs (F := F)) adm (pdats m) () defs₀ Variants.none lev lvl 1 :=
  RegionSeg.ofHeld (pcfgs (F := F)) adm (pdats m) () defs₀ Variants.none lev lvl 1 (fun _ => 0)
    (fun _ => iprop(emp)) (fun _ => iprop(emp)) launch1.toP rfl
    (fun c => (moe_obligation (Y7 m c) c).loose) (fun _ _ => rfl) (fun _ => rfl)
    (fun c w => (moeDat (Y7 m c) c).share_full (fun _ => rfl) w)
    (fun c => moe_in (Y7 m c) c) (fun c => moe_out (Y7 m c) c) (fun _ => 0) (cut 1)
    (fun c => StableHlo.held (c : Thread nD τ) (Pipeline.ucRefs τ sig \ Pipeline.arrRefs (τ := τ) spec1) (Y7 m c))
    (fun c => Y7 m c) (fun c => Y8 m c) (fun c w => moeDat_A (Y7 m c) c w) (fun c w => moe_left m c w)

/-- Into a region: the buffers split into its arrays and the rest. -/
theorem enter (T : Finset (DevRef τ sig)) (hT : T ⊆ Pipeline.ucRefs τ sig) (c : Dev nD) (V : Valuation τ sig (Elt F)) (E : sProp 𝕄) :
    iprop(StableHlo.held (c : Thread nD τ) (Pipeline.ucRefs τ sig) V ∗ E)
      ⊢ iprop(StableHlo.held (c : Thread nD τ) T V ∗ emp ∗ StableHlo.held (c : Thread nD τ) (Pipeline.ucRefs τ sig \ T) V ∗ E) := by
  rw [StableHlo.held_sub_split (c : Thread nD τ) hT V]
  iintro ⟨⟨Ha, Hb⟩, He⟩
  isplitl [Ha]; · iexact Ha
  isplitr; · iempintro
  isplitl [Hb]; · iexact Hb
  iexact He

/-- Out of a region: the arrays and the rest join at the new contents. -/
theorem leave (T : Finset (DevRef τ sig)) (hT : T ⊆ Pipeline.ucRefs τ sig) (c : Dev nD) (V V' : Valuation τ sig (Elt F)) (E : sProp 𝕄)
    (h : ∀ b ∈ Pipeline.ucRefs τ sig \ T, V b = V' b) :
    iprop(StableHlo.held (c : Thread nD τ) T V' ∗ emp ∗ StableHlo.held (c : Thread nD τ) (Pipeline.ucRefs τ sig \ T) V ∗ E)
      ⊢ iprop(StableHlo.held (c : Thread nD τ) (Pipeline.ucRefs τ sig) V' ∗ E) := by
  rw [StableHlo.held_sub_split (c : Thread nD τ) hT V', StableHlo.held_congr (c : Thread nD τ) h]
  iintro ⟨Ha, -, Hb, He⟩
  isplitr [He]
  · isplitl [Ha]; · iexact Ha
    iexact Hb
  iexact He

/-! ## The launch -/

set_option backward.isDefEq.respectTransparency.types false in
/-- Every execution ends, with every counter at zero and every buffer outside the scopes at the contents computed here. -/
theorem run_all (ρ : Dev nD → PrngReg) :
    θ_run defs (onTc (τ := τ) (main (F := F))) ⟨m, fun _ => 0, ρ⟩ (fun r =>
      (∀ c : Dev nD, ∀ b ∈ Pipeline.ucRefs τ sig, r.2.mem ((c : Thread nD τ).1, b) = Y8 m c b) ∧ r.2.sem = fun _ => 0) := by
  refine Pipeline.θ_run_regions_kit_dev_sems (pcfgs (F := F)) adm (pdats m) () cellOf_inj emb₁ defs₀ Variants.none lev lvl m ρ main
    (segs m (left m) Variants.none lev lvl idleAt () (pdats m) (reg0 m) (reg1 m))
    (fun c Q => by
      rewrite [main_chain c, Seg.run_eq_chain,
        show (segs m (left m) Variants.none lev lvl idleAt () (pdats m) (reg0 m) (reg1 m) c).map Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          Prog.lift (.customCall (Pipeline.entry 1) ()) ] from rfl]
      dsimp (config := { failIfUnchanged := false }) only
      exact .rfl)
    (fun c => by simp only [segs, Seg.pipes_host, Seg.pipes_region, Seg.pipes_nil]; decide) (O₀ := 0)
    (hL := fun g h => if_neg h)
    (G := fun _ => iprop(emp)) (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ idleAt 0 c))
    (Tₙ := fun c => StableHlo.held (c : Thread nD τ) (Pipeline.ucRefs τ sig) (Y8 m c))
    (hch := fun c => ⟨.rfl, .rfl, .rfl, .rfl, .rfl, enter _ arrs_sub0 c (V5 m c) _,
      (leave _ arrs_sub0 c (V5 m c) (Y6 m c) _ (rest0 m c)).trans (by rw [← V6_left]; exact .rfl),
      (show iprop(StableHlo.held (c : Thread nD τ) (Pipeline.ucRefs τ sig) (V7 m (left m) c) ∗ idleAt 1 c) ⊢ _ from by
        rw [V7_left]; exact enter _ arrs_sub1 c (Y7 m c) _),
      leave _ arrs_sub1 c (Y7 m c) (Y8 m c) _ (rest1 m c)⟩)
    (hinit := ?_)
    (QY := fun c s => ∀ b ∈ Pipeline.ucRefs τ sig, s.mem ((c : Thread nD τ).1, b) = Y8 m c b)
    (hfin := fun c s' => ?_)
    (hQ := fun _ h hz => ⟨h, funext fun g => hz g (.inr (regions_no_unscoped g.2))⟩)
  · refine Pipeline.initEach lev lvl fun c => ?_
    rw [show unscopedBufs c (fun b => m ((c : Thread nD τ).loc b)) = StableHlo.held (c : Thread nD τ) (Pipeline.ucRefs τ sig) (V0 m c) from
      Pipeline.unscopedBufs_held c (V0 m c)]
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (Pipeline.ucRefs τ sig) (fun b => ((c : Thread nD τ).1, b)) (Y8 m c) s') $$ [Hh HSI]
    · isplitl [Hh] <;> iassumption
    icases Hr with ⟨%h, HSI⟩
    imodintro
    isplitr
    · ipureintro; exact h
    iexact HSI

/-- A TensorCore buffer outside the scopes is among those `run_all` speaks of. -/
theorem mem_uc (r : Ref sig .tc) (h : r.isScoped = false) : Proc.devRef (τ := τ) .tc r ∈ Pipeline.ucRefs τ sig :=
  Finset.mem_filter.mpr ⟨StableHlo.devRef_mem_tcRefs r, fun h' => Bool.false_ne_true (h.symm.trans h')⟩

/-- The frame: every argument's buffer ends as launched, every counter at zero. -/
theorem frame (ρ : Dev nD → PrngReg) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  (θ_run defs _ _).mono (fun r h => ⟨fun c => by
    have keep (a : Ref sig .tc) (ha : a.isScoped = false) (hV : V8 m (left m) c (Proc.devRef .tc a) = m ((c : Thread nD τ).loc a)) :
        r.2.mem ((c.tc : Thread nD τ).loc a) = m ((c.tc : Thread nD τ).loc a) :=
      (h.1 c _ (mem_uc a ha)).trans (by rw [← V8_left]; exact hV)
    exact ⟨keep main_arg0 rfl (V8_main_arg0 m (left m) c),
      keep main_arg1 rfl (V8_main_arg1 m (left m) c),
      keep main_arg2 rfl (V8_main_arg2 m (left m) c),
      keep main_arg3 rfl (V8_main_arg3 m (left m) c),
      keep main_arg4 rfl (V8_main_arg4 m (left m) c),
      keep main_arg5 rfl (V8_main_arg5 m (left m) c),
      keep main_arg6 rfl (V8_main_arg6 m (left m) c),
      keep main_arg7 rfl (V8_main_arg7 m (left m) c),
      keep main_arg8 rfl (V8_main_arg8 m (left m) c),
      keep main_arg9 rfl (V8_main_arg9 m (left m) c),
      keep main_arg10 rfl (V8_main_arg10 m (left m) c),
      keep main_arg11 rfl (V8_main_arg11 m (left m) c),
      keep main_arg12 rfl (V8_main_arg12 m (left m) c)⟩, h.2⟩) (run_all m ρ)

end Cert.KernelIdeal.Run

end
-- ==== Proof.Gate.lean ====
/-
Routing to the two best of eight experts, over the extended reals, and no program in sight: what the greatest entry
of a list is when ties go to the lower index; that a maximum and a minimum over the lanes find it; that a stable sort
puts it first; and that the two ways of writing the two gates agree on finite logits.
-/
module

public import Idealize.ShloMosaic.Lib.Pointwise
public import Idealize.ShloMosaic.Lib.SortFacts
public import Idealize.ShloMosaic.Lib.StableHlo.Predicate
public import Idealize.ShloMosaic.PureOps.Ideal

@[expose] public section

noncomputable section

namespace Cert.Gate

open Idealize.ShloMosaic

/-- `a` is the greatest among the entries with `P`, the lowest of them where several are greatest. -/
structure IsTop (P : Fin 8 → Prop) (v : Fin 8 → EReal) (a : Fin 8) : Prop where
  mem : P a
  le : ∀ j, P j → v j ≤ v a
  lt : ∀ j, P j → j < a → v j < v a

theorem IsTop.unique {P : Fin 8 → Prop} {v : Fin 8 → EReal} {a b : Fin 8} (ha : IsTop P v a) (hb : IsTop P v b) : a = b := by
  rcases lt_trichotomy a b with h | h | h
  · exact absurd (hb.lt a ha.mem h) (not_lt.2 (ha.le b hb.mem))
  · exact h
  · exact absurd (ha.lt b hb.mem h) (not_lt.2 (hb.le a ha.mem))

/-- Only the order of the entries matters. -/
theorem IsTop.of_order {P : Fin 8 → Prop} {v w : Fin 8 → EReal} {a : Fin 8} (h : ∀ i j, v i < v j ↔ w i < w j)
    (ha : IsTop P v a) : IsTop P w a :=
  ⟨ha.mem, fun j hj => not_lt.1 fun hl => absurd ((h a j).2 hl) (not_lt.2 (ha.le j hj)), fun j hj hl => (h j a).1 (ha.lt j hj hl)⟩

/-- A sum of reals, as a sum of extended reals. -/
theorem coe_sum {ι : Type} (s : Finset ι) (f : ι → ℝ) : ((∑ i ∈ s, f i : ℝ) : EReal) = ∑ i ∈ s, (f i : EReal) := by
  classical
  induction s using Finset.induction_on with
  | empty => rfl
  | insert a s ha ih => rw [Finset.sum_insert ha, Finset.sum_insert ha, EReal.coe_add, ih]

/-- A sum times a number that is finite and not negative. -/
theorem mul_sum {ι : Type} (s : Finset ι) {c : EReal} (h0 : 0 ≤ c) (ht : c ≠ ⊤) (f : ι → EReal) :
    c * ∑ i ∈ s, f i = ∑ i ∈ s, c * f i := by
  classical
  induction s using Finset.induction_on with
  | empty => exact mul_zero c
  | insert a s ha ih => rw [Finset.sum_insert ha, Finset.sum_insert ha, EReal.left_distrib_of_nonneg_of_ne_top h0 ht, ih]

/-! ## Maxima and minima over the lanes -/

/-- A maximum from `⊥` is the greatest entry. -/
theorem fold_max_eq (w : Fin 8 → EReal) (a : Fin 8) (h : ∀ j, w j ≤ w a) : Finset.univ.fold max ⊥ w = w a :=
  le_antisymm ((Finset.fold_max_le _).2 ⟨bot_le, fun j _ => h j⟩) ((Finset.le_fold_max _).2 (.inr ⟨a, Finset.mem_univ a, le_rfl⟩))

theorem toInt_minsi (x y : BitVec 32) : (IntOp.minsi x y).toInt = min x.toInt y.toInt := by
  unfold IntOp.minsi
  by_cases h : x.slt y = true
  · rw [if_pos h]
    rw [BitVec.slt_iff_toInt_lt] at h
    exact (min_eq_left h.le).symm
  · rw [if_neg h]
    rw [BitVec.slt_iff_toInt_lt] at h
    exact (min_eq_right (not_lt.1 h)).symm

/-- The minimum of small words, from the greatest word, is the least of them. -/
theorem fold_min_eq (n : Fin 8 → ℕ) (a : Fin 8) (hn : ∀ j, n j ≤ 8) (h : ∀ j, n a ≤ n j) :
    Finset.univ.fold IntOp.minsi 2147483647#32 (fun j => BitVec.ofNat 32 (n j)) = BitVec.ofNat 32 (n a) := by
  have hi : ∀ j, (BitVec.ofNat 32 (n j)).toInt = n j := fun j =>
    StableHlo.Predicate.toInt_ofNat_small _ (lt_of_le_of_lt (hn j) (by decide))
  refine BitVec.toInt_inj.1 ?_
  rw [← Finset.fold_hom (op' := min) (m := BitVec.toInt) toInt_minsi, hi a]
  refine le_antisymm ((Finset.fold_min_le _).2 (.inr ⟨a, Finset.mem_univ a, (hi a).le⟩)) ((Finset.le_fold_min _).2 ⟨?_, fun j _ => ?_⟩)
  · exact le_trans (Int.ofNat_le.2 (hn a)) (by decide)
  · rw [hi j]
    exact Int.ofNat_le.2 (h j)

/-- The list `w` agrees with `v` on the entries with `P` and is `⊥` elsewhere: its maximum is `v`'s greatest entry, and
    the least lane with that entry is the greatest's own. -/
theorem first_eq {P : Fin 8 → Prop} {v : Fin 8 → EReal} {a : Fin 8} (w : Fin 8 → EReal) (ha : IsTop P v a)
    (hw : ∀ j, P j → w j = v j) (hw' : ∀ j, ¬ P j → w j = ⊥) (hb : v a ≠ ⊥) :
    Finset.univ.fold max ⊥ w = v a
      ∧ Finset.univ.fold IntOp.minsi 2147483647#32 (fun j : Fin 8 => if w j = v a then BitVec.ofNat 32 j.val else 8#32)
          = BitVec.ofNat 32 a.val := by
  have hwa : w a = v a := hw a ha.mem
  refine ⟨hwa ▸ fold_max_eq w a fun j => ?_, ?_⟩
  · by_cases hj : P j
    · rw [hw j hj, hwa]; exact ha.le j hj
    · rw [hw' j hj]; exact bot_le
  · have e : (fun j : Fin 8 => if w j = v a then BitVec.ofNat 32 j.val else 8#32)
        = fun j : Fin 8 => BitVec.ofNat 32 (if w j = v a then j.val else 8) := by
      funext j; split <;> rfl
    have ea : (if w a = v a then a.val else 8) = a.val := if_pos hwa
    rw [e]
    refine (fold_min_eq (fun j => if w j = v a then j.val else 8) a (fun j => ?_) fun j => ?_).trans (by rw [ea])
    · split <;> omega
    · rw [ea]
      by_cases hj : w j = v a
      · rw [if_pos hj]
        by_contra hlt
        have hP : P j := by
          by_contra hP
          exact hb ((hw' j hP).symm.trans hj).symm
        exact absurd ((hw j hP).symm.trans hj) (ha.lt j hP (Fin.lt_def.2 (not_le.1 hlt))).ne
      · rw [if_neg hj]; omega

/-! ## The stable sort -/

/-- `j` comes before `k` in the order of the entries, greater first, ties by index. -/
def Before {n : ℕ} (v : Fin n → EReal) (j k : Fin n) : Prop := v k < v j ∨ (v j = v k ∧ j < k)

theorem Before.trans {n : ℕ} {v : Fin n → EReal} {i j k : Fin n} (h : Before v i j) (h' : Before v j k) : Before v i k := by
  rcases h with h | ⟨h, g⟩ <;> rcases h' with h' | ⟨h', g'⟩
  · exact .inl (h'.trans h)
  · exact .inl (h' ▸ h)
  · exact .inl (h ▸ h')
  · exact .inr ⟨h.trans h', g.trans g'⟩

theorem pairwise_insert {n : ℕ} (v : Fin n → EReal) (a : Fin n) (l : List (Fin n)) (hl : l.Pairwise (Before v))
    (ha : ∀ b ∈ l, a < b) : (insertBefore (fun j k => decide (v k < v j)) a l).Pairwise (Before v) := by
  induction l with
  | nil => exact List.pairwise_singleton _ _
  | cons b l ih =>
    rw [List.pairwise_cons] at hl
    unfold insertBefore
    split
    · rename_i h
      refine List.pairwise_cons.mpr ⟨fun c hc => ?_, ih hl.2 fun c hc => ha c (List.mem_cons_of_mem _ hc)⟩
      rcases List.mem_cons.mp ((perm_insertBefore _ a l).mem_iff.mp hc) with rfl | hc'
      · exact .inl (of_decide_eq_true h)
      · exact hl.1 c hc'
    · rename_i h
      have hab : Before v a b := by
        rcases lt_or_eq_of_le (not_lt.1 fun h' => h (decide_eq_true h')) with h' | h'
        · exact .inl h'
        · exact .inr ⟨h'.symm, ha b (List.mem_cons_self ..)⟩
      refine List.pairwise_cons.mpr ⟨fun c hc => ?_, List.pairwise_cons.mpr hl⟩
      rcases List.mem_cons.mp hc with rfl | hc'
      · exact hab
      · exact hab.trans (hl.1 c hc')

theorem pairwise_sort {n : ℕ} (v : Fin n → EReal) (l : List (Fin n)) (hl : l.Pairwise (· < ·)) :
    (stableSort (fun j k => decide (v k < v j)) l).Pairwise (Before v) := by
  induction l with
  | nil => exact List.Pairwise.nil
  | cons a l ih =>
    rw [List.pairwise_cons] at hl
    unfold stableSort
    exact pairwise_insert v a _ (ih hl.2) fun b hb => hl.1 b ((perm_stableSort _ l).mem_iff.mp hb)

/-- The sort's places in order. -/
theorem sorted_before {n : ℕ} (v : Fin n → EReal) (i j : Fin n) (h : i < j) :
    Before v (sortedFrom (fun j k => decide (v k < v j)) i) (sortedFrom (fun j k => decide (v k < v j)) j) := by
  unfold sortedFrom
  exact List.pairwise_iff_get.mp (pairwise_sort v _ (List.pairwise_lt_finRange n)) _ _ h

/-- The stable sort's place `i`, of eight entries, greater first. -/
def place (v : Fin 8 → EReal) (i : Fin 8) : Fin 8 := sortedFrom (fun j k => decide (v k < v j)) i

theorem place_ne (v : Fin 8 → EReal) : place v 1 ≠ place v 0 := fun h =>
  absurd (sortedFrom_injective _ h) (by decide)

/-- The sort's first place has the greatest entry. -/
theorem place_zero (v : Fin 8 → EReal) : IsTop (fun _ => True) v (place v 0) := by
  have key : ∀ j, j = place v 0 ∨ Before v (place v 0) j := fun j => by
    obtain ⟨i, rfl⟩ := sortedFrom_surjective (fun j k => decide (v k < v j)) j
    rcases eq_or_ne i 0 with rfl | hi
    · exact .inl rfl
    · exact .inr (sorted_before v 0 i (Fin.pos_iff_ne_zero.2 hi))
  refine ⟨trivial, fun j _ => ?_, fun j _ hj => ?_⟩
  · rcases key j with rfl | h | ⟨h, _⟩
    · exact le_rfl
    · exact h.le
    · exact h.symm.le
  · rcases key j with rfl | h | ⟨_, h⟩
    · exact absurd hj (lt_irrefl _)
    · exact h
    · exact absurd hj (lt_asymm h)

/-- Its second place has the greatest of the others. -/
theorem place_one (v : Fin 8 → EReal) : IsTop (fun j => j ≠ place v 0) v (place v 1) := by
  have key : ∀ j, j ≠ place v 0 → j = place v 1 ∨ Before v (place v 1) j := fun j hj => by
    obtain ⟨i, rfl⟩ := sortedFrom_surjective (fun j k => decide (v k < v j)) j
    have hi : i ≠ 0 := fun h => hj (by rw [h]; rfl)
    rcases eq_or_ne i 1 with rfl | h1
    · exact .inl rfl
    · exact .inr (sorted_before v 1 i (by omega))
  refine ⟨place_ne v, fun j hj => ?_, fun j hj hl => ?_⟩
  · rcases key j hj with rfl | h | ⟨h, _⟩
    · exact le_rfl
    · exact h.le
    · exact h.symm.le
  · rcases key j hj with rfl | h | ⟨_, h⟩
    · exact absurd hl (lt_irrefl _)
    · exact h
    · exact absurd hl (lt_asymm h)

/-! ## The gates -/

/-- The two gates from the two best logits `u ≥ w`: over `1 + exp (w - u)`. -/
def gates (u w : EReal) : Fin 2 → EReal :=
  ![Ideal.div 1 (1 + Ideal.exp (w - u)), Ideal.div (Ideal.exp (w - u)) (1 + Ideal.exp (w - u))]

/-- The combine weight of lane `l` when `a` is the best expert and `b` the second. -/
def weight (lg : Fin 8 → EReal) (a b l : Fin 8) : EReal :=
  (if l = a then gates (lg a) (lg b) 0 else 0) + (if l = b then gates (lg a) (lg b) 1 else 0)

/-- The softmax of a list of logits, as it is computed. -/
def prob (lg : Fin 8 → EReal) (l : Fin 8) : EReal :=
  Ideal.div (Ideal.exp (lg l - max ⊥ (Finset.univ.fold max ⊥ lg)))
    (∑ k, Ideal.exp (lg k - max ⊥ (Finset.univ.fold max ⊥ lg)))

/-- On finite logits the softmax is real and positive, the quotient of an exponential by one common positive number. -/
theorem prob_coe (x : Fin 8 → ℝ) : ∃ μ s : ℝ, 0 < s ∧ ∀ l, prob (fun j => (x j : EReal)) l = ((Real.exp (x l - μ) / s : ℝ) : EReal) := by
  obtain ⟨a, ha⟩ := Finite.exists_max x
  have hm : max ⊥ (Finset.univ.fold max ⊥ fun j => (x j : EReal)) = (x a : EReal) := by
    rw [max_eq_right bot_le, fold_max_eq _ a fun j => EReal.coe_le_coe_iff.2 (ha j)]
  have he : ∀ k, Ideal.exp ((x k : EReal) - (x a : EReal)) = ((Real.exp (x k - x a) : ℝ) : EReal) := fun k => by
    rw [← EReal.coe_sub]; rfl
  have hs : (∑ k, Ideal.exp ((x k : EReal) - (x a : EReal))) = ((∑ k, Real.exp (x k - x a) : ℝ) : EReal) := by
    simp only [he]
    exact (coe_sum _ _).symm
  have hp : 0 < ∑ k, Real.exp (x k - x a) := Finset.sum_pos (fun k _ => Real.exp_pos _) Finset.univ_nonempty
  refine ⟨x a, _, hp, fun l => ?_⟩
  unfold prob
  simp only [hm, hs]
  rw [he, Ideal.div_coe hp.ne', ← EReal.coe_mul]
  congr 1
  ring

/-- The softmax keeps the order of finite logits. -/
theorem prob_lt (x : Fin 8 → ℝ) (i j : Fin 8) :
    prob (fun j => (x j : EReal)) i < prob (fun j => (x j : EReal)) j ↔ (x i : EReal) < (x j : EReal) := by
  obtain ⟨μ, s, hs, h⟩ := prob_coe x
  rw [h, h, EReal.coe_lt_coe_iff, EReal.coe_lt_coe_iff, div_lt_div_iff_of_pos_right hs, Real.exp_lt_exp]
  exact sub_lt_sub_iff_right μ

/-- The two probabilities over their sum are the two gates. -/
theorem gate_eq (x : Fin 8 → ℝ) (a b : Fin 8) :
    Ideal.div (prob (fun j => (x j : EReal)) a) (prob (fun j => (x j : EReal)) a + prob (fun j => (x j : EReal)) b)
        = gates (x a) (x b) 0
      ∧ Ideal.div (prob (fun j => (x j : EReal)) b) (prob (fun j => (x j : EReal)) a + prob (fun j => (x j : EReal)) b)
        = gates (x a) (x b) 1 := by
  obtain ⟨μ, s, hs, h⟩ := prob_coe x
  have e : Ideal.exp ((x b : EReal) - (x a : EReal)) = ((Real.exp (x b - x a) : ℝ) : EReal) := by rw [← EReal.coe_sub]; rfl
  have e1 : (1 : EReal) + ((Real.exp (x b - x a) : ℝ) : EReal) = ((1 + Real.exp (x b - x a) : ℝ) : EReal) := by
    rw [EReal.coe_add, EReal.coe_one]
  have hd : (0 : ℝ) < 1 + Real.exp (x b - x a) := by positivity
  have hd' : (0 : ℝ) < Real.exp (x a - μ) / s + Real.exp (x b - μ) / s := by positivity
  have hb : Real.exp (x b - μ) = Real.exp (x b - x a) * Real.exp (x a - μ) := by rw [← Real.exp_add]; ring_nf
  have ha := Real.exp_pos (x a - μ)
  unfold gates
  simp only [Matrix.cons_val_zero, Matrix.cons_val_one, h, e, e1, ← EReal.coe_add]
  rw [Ideal.div_coe hd.ne', Ideal.div_coe hd.ne', Ideal.div_coe hd'.ne', Ideal.div_coe hd'.ne', ← EReal.coe_one, ← EReal.coe_mul,
    ← EReal.coe_mul, ← EReal.coe_mul, ← EReal.coe_mul]
  have hx : Real.exp (x a - μ) / s + Real.exp (x b - μ) / s = Real.exp (x a - μ) / s * (1 + Real.exp (x b - x a)) := by
    rw [hb]; ring
  rw [hx]
  constructor <;> congr 1
  · field_simp
  · rw [hb]; field_simp

/-- On finite logits a gate is real and not negative. -/
theorem gates_coe (u w : ℝ) (i : Fin 2) : ∃ g : ℝ, 0 ≤ g ∧ gates (u : EReal) (w : EReal) i = (g : EReal) := by
  have e : Ideal.exp ((w : EReal) - (u : EReal)) = ((Real.exp (w - u) : ℝ) : EReal) := by rw [← EReal.coe_sub]; rfl
  have e1 : (1 : EReal) + ((Real.exp (w - u) : ℝ) : EReal) = ((1 + Real.exp (w - u) : ℝ) : EReal) := by
    rw [EReal.coe_add, EReal.coe_one]
  have hd : (0 : ℝ) < 1 + Real.exp (w - u) := by positivity
  have key : ∀ z : ℝ, 0 ≤ z → ∃ g : ℝ, 0 ≤ g ∧ Ideal.div (z : EReal) ((1 + Real.exp (w - u) : ℝ) : EReal) = (g : EReal) := fun z hz =>
    ⟨z * (1 / (1 + Real.exp (w - u))), by positivity, by rw [Ideal.div_coe hd.ne', ← EReal.coe_mul]⟩
  unfold gates
  rw [e, e1]
  match i with
  | 0 => exact (key 1 zero_le_one)
  | 1 => exact (key _ (Real.exp_pos _).le)

/-- On finite logits a combine weight is finite and not negative. -/
theorem weight_range (x : Fin 8 → ℝ) (a b l : Fin 8) :
    0 ≤ weight (fun j => (x j : EReal)) a b l ∧ weight (fun j => (x j : EReal)) a b l ≠ ⊤ := by
  obtain ⟨g, hg, eg⟩ := gates_coe (x a) (x b) 0
  obtain ⟨g', hg', eg'⟩ := gates_coe (x a) (x b) 1
  have key : ∃ z : ℝ, 0 ≤ z ∧ weight (fun j => (x j : EReal)) a b l = (z : EReal) := by
    unfold weight
    rw [eg, eg']
    refine ⟨(if l = a then g else 0) + (if l = b then g' else 0), by split <;> split <;> positivity, ?_⟩
    rw [EReal.coe_add]
    split <;> split <;> simp
  obtain ⟨z, hz, e⟩ := key
  rw [e]
  exact ⟨EReal.coe_nonneg.2 hz, EReal.coe_ne_top z⟩

end Cert.Gate

end
-- ==== Proof.Encode.lean ====
/-
The piecewise-linear encoding: the kernel multiplies by a reciprocal width where the reference divides by the width.
-/
module

public import proofs.«01_k».proof.Proof.Gate

@[expose] public section

noncomputable section

namespace Cert.Encode

open Idealize.ShloMosaic Idealize.ShloMosaic.TcCoe

/-- A number cut to the unit interval is real. -/
theorem clip_real (z : EReal) : ∃ y : ℝ, min 1 (max 0 z) = (y : EReal) := by
  have h1 : min 1 (max 0 z) ≠ ⊤ := ne_top_of_le_ne_top (EReal.coe_ne_top 1) (by rw [EReal.coe_one]; exact min_le_left _ _)
  have h0 : min 1 (max 0 z) ≠ ⊥ := ne_bot_of_le_ne_bot (b := 0) (EReal.coe_ne_bot 0)
    (le_min zero_le_one (le_max_left _ _))
  exact ⟨_, (EReal.coe_toReal h1 h0).symm⟩

/-- Cut to the unit interval, a product with the reciprocal is the quotient, also where the width is 0. -/
theorem clip_div (a w : EReal) : min 1 (max 0 (a * Ideal.div 1 w)) = min 1 (max 0 (Ideal.div a w)) := by
  by_cases hw : w = 0
  · have e1 : Ideal.div 1 w = ⊤ := by unfold Ideal.div; rw [if_pos hw, if_pos zero_lt_one]
    have ea : Ideal.div a w = if 0 < a then ⊤ else ⊥ := by unfold Ideal.div; rw [if_pos hw]
    rw [e1, ea]
    rcases lt_trichotomy a 0 with h | h | h
    · rw [EReal.mul_top_of_neg h, if_neg (not_lt.2 h.le)]
    · rw [h, zero_mul, if_neg (lt_irrefl _), max_self, max_eq_left bot_le]
    · rw [EReal.mul_top_of_pos h, if_pos h]
  · have e : ∀ b : EReal, Ideal.div b w = b * w⁻¹ := fun b => by unfold Ideal.div; rw [if_neg hw]
    rw [e, e, one_mul]

/-- A sum against the indicator of one place is the summand there. -/
theorem sum_pick {n : ℕ} (f : Fin n → EReal) (i : ℕ) (hi : i < n) : ∑ k : Fin n, f k * (if k.val = i then 1 else 0) = f ⟨i, hi⟩ := by
  rw [Finset.sum_eq_single (⟨i, hi⟩ : Fin n) (fun k _ hk => by rw [if_neg fun h => hk (Fin.ext h), mul_zero])
    (fun h => absurd (Finset.mem_univ _) h), if_pos rfl, mul_one]

/-- A sum over all features' places, against the indicator of one feature, is the sum over that feature's sixteen. -/
theorem sum_feature (f : Fin 26 → Fin 16 → EReal) (i : ℕ) (hi : i < 26) :
    ∑ q : Fin 416, f ⟨q.val / 16, by omega⟩ ⟨q.val % 16, by omega⟩ * (if q.val / 16 = i then 1 else 0) = ∑ k : Fin 16, f ⟨i, hi⟩ k := by
  rw [Fin.sum_univ_tiles 26 16 rfl]
  have e : ∀ (n : Fin 26) (k : Fin 16), f ⟨(n.val * 16 + k.val) / 16, by omega⟩ ⟨(n.val * 16 + k.val) % 16, by omega⟩
      * (if (n.val * 16 + k.val) / 16 = i then 1 else 0) = f n k * (if n.val = i then 1 else 0) := fun n k => by
    have h1 : (n.val * 16 + k.val) / 16 = n.val := by omega
    have h2 : (n.val * 16 + k.val) % 16 = k.val := by omega
    simp only [h1, h2]
  simp only [e]
  rw [Finset.sum_comm]
  exact Finset.sum_congr rfl fun k _ => sum_pick (fun n => f n k) i hi

/-- A sum of real numbers is real. -/
theorem sum_real {n : ℕ} (f : Fin n → EReal) (h : ∀ k, ∃ y : ℝ, f k = (y : EReal)) : ∃ y : ℝ, ∑ k, f k = (y : EReal) := by
  choose g hg using h
  exact ⟨∑ k, g k, by rw [Gate.coe_sum]; exact Finset.sum_congr rfl fun k _ => hg k⟩

/-- A product of real numbers is real. -/
theorem mul_real {u v : EReal} (hu : ∃ y : ℝ, u = (y : EReal)) (hv : ∃ y : ℝ, v = (y : EReal)) : ∃ y : ℝ, u * v = (y : EReal) := by
  obtain ⟨a, rfl⟩ := hu
  obtain ⟨b, rfl⟩ := hv
  exact ⟨a * b, (EReal.coe_mul a b).symm⟩

/-- A sum of two real numbers is real. -/
theorem add_real {u v : EReal} (hu : ∃ y : ℝ, u = (y : EReal)) (hv : ∃ y : ℝ, v = (y : EReal)) : ∃ y : ℝ, u + v = (y : EReal) := by
  obtain ⟨a, rfl⟩ := hu
  obtain ⟨b, rfl⟩ := hv
  exact ⟨a + b, (EReal.coe_add a b).symm⟩

/-- A number whose absolute value is finite is real. -/
theorem real_of_abs {u : EReal} (h : max u (-u) < ⊤) : ∃ y : ℝ, u = (y : EReal) := by
  have h1 : u ≠ ⊤ := fun e => absurd (lt_of_le_of_lt (le_max_left u (-u)) h) (by rw [e]; exact lt_irrefl _)
  have h2 : u ≠ ⊥ := fun e => absurd (lt_of_le_of_lt (le_max_right u (-u)) h) (by rw [e, EReal.neg_bot]; exact lt_irrefl _)
  exact ⟨_, (EReal.coe_toReal h1 h2).symm⟩

end Cert.Encode

end
-- ==== Proof.Pre.lean ====
/-
The precondition of the value claim, read: the embedding's weights and biases and the router's weights are real numbers.
-/
module

public import proofs.«01_k».proof.Defs
public import proofs.«01_k».proof.Proof.Encode
public import Idealize.ShloMosaic.Lib.ReduceAll

@[expose] public section

noncomputable section

namespace Cert.Pre_routing_finite

open Idealize.ShloMosaic Idealize.ShloMosaic.TcCoe

/-- The side conditions of the precondition's operations. -/
instance facts : Facts where
  bcast_S_S26x16x64 := by decide
  reducesTo_S26x16x64_S_d0_1_2 := by decide
  h_S_ := by decide
  bcast_S_S26x64 := by decide
  reducesTo_S26x64_S_d0_1 := by decide
  bcast_S_S1664x8 := by decide
  reducesTo_S1664x8_S_d0_1 := by decide

/-- The word of `+∞`. -/
theorem ofBits_top : Ideal.ofBits FTy.f32 0x7F800000#32 = ⊤ := by
  simp [Ideal.ofBits, Ideal.ieee]

/-- An element whose comparison of its absolute value with `+∞` holds is real. -/
theorem real_of_cmp {s : Shape} (x y : FVec Ideal s .f32) (i : s.Idx) (hy : y i = Ideal.ofBits FTy.f32 0x7F800000#32)
    (h : cmpf .olt (Host.absf x) y i = 1#1) : ∃ z : ℝ, x i = (z : EReal) := by
  refine Encode.real_of_abs ?_
  have h' : BitVec.ofBool (decide (max (x i) (-(x i)) < y i)) = 1#1 := h
  rw [hy, ofBits_top] at h'
  by_contra hn
  rw [decide_eq_false hn] at h'
  exact absurd h' (by decide)

instance : Subsingleton S_.Idx := ⟨fun a b => funext fun k => k.elim0⟩

/-- Under the precondition the three arrays hold real numbers. -/
theorem real_of_fn (a0 : FVec Ideal S1024x26 .f32) (a1 : FVec Ideal S26x17 .f32) (a2 : FVec Ideal S26x16x64 .f32) (a3 : FVec Ideal S26x64 .f32)
    (a4 : FVec Ideal S1664x8 .f32) (a5 : FVec Ideal S8x1664x512 .f32) (a6 : FVec Ideal S8x512 .f32) (a7 : FVec Ideal S8x512x1664 .f32)
    (a8 : FVec Ideal S8x1664 .f32) (a9 : FVec Ideal S2x1664x256 .f32) (a10 : FVec Ideal S2x256 .f32) (a11 : FVec Ideal S2x256x1 .f32)
    (a12 : FVec Ideal S2x1 .f32)
    (h : fn (F := Ideal) a0 a1 a2 a3 a4 a5 a6 a7 a8 a9 a10 a11 a12 = fun _ => 1#1) :
    (∀ i, ∃ z : ℝ, a2 i = (z : EReal)) ∧ (∀ i, ∃ z : ℝ, a3 i = (z : EReal)) ∧ (∀ i, ∃ z : ℝ, a4 i = (z : EReal)) := by
  have h0 := congrFun h (fun k => k.elim0)
  dsimp only [fn] at h0
  obtain ⟨h01, h4⟩ := IntOp.andi_eq_one.1 h0
  obtain ⟨h2, h3⟩ := IntOp.andi_eq_one.1 h01
  exact ⟨fun i => real_of_cmp _ _ i rfl (Host.reduce_andi_all _ _ _ _ _ h2 i),
    fun i => real_of_cmp _ _ i rfl (Host.reduce_andi_all _ _ _ _ _ h3 i),
    fun i => real_of_cmp _ _ i rfl (Host.reduce_andi_all _ _ _ _ _ h4 i)⟩

end Cert.Pre_routing_finite

end
-- ==== Proof.Frames.lean ====
/-
  The frames of the three programs, in the words of the certificate.
-/
module

public import proofs.«01_k».proof.Defs
public import proofs.«01_k».proof.Proof.Pre
public import proofs.«01_k».proof.Proof.Gen.ReferenceIdeal.Run
public import proofs.«01_k».proof.Proof.PI.Launch
public import proofs.«01_k».proof.Proof.P.Launch

@[expose] public section

noncomputable section

namespace Cert.Proof

open Idealize.ShloMosaic Idealize.ShloMosaic.TcCoe Idealize.SL.Sem

/-- The kernel's run leaves the arguments and every counter at zero. -/
theorem frame_kernel : Cert.quiescent_Kernel := fun m ρ _ => Cert.Kernel.Run.frame (F := Bits) m ρ

/-- The idealized kernel's run leaves the arguments and every counter at zero. -/
theorem frame_kernel_ideal : Cert.quiescent_KernelIdeal := fun m ρ _ => Cert.KernelIdeal.Run.frame (F := Ideal) m ρ

/-- The reference is host operations only: its run leaves the arguments, and it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The idealized kernel's frame, on the value claim's inputs. -/
theorem frame_kernel_ideal_pre : Cert.quiescent_KernelIdeal_pre_routing_finite := fun m ρ _ => frame_kernel_ideal m ρ trivial

/-- The reference's frame, on the value claim's inputs. -/
theorem frame_reference_pre : Cert.quiescent_ReferenceIdeal_pre_routing_finite := fun m ρ _ => frame_reference m ρ trivial

end Cert.Proof

end
-- ==== Proof.PI.HostValue.lean ====
/-
What the host computes for the routing region, read at an index over the arguments: the left edges, the reciprocal widths,
the flattened embedding and bias, and the three arrays of zeros and ones that spread a feature over its places and lanes.
-/
module

public import proofs.«01_k».proof.Proof.PI.Launch
public import Idealize.ShloMosaic.Lib.Pointwise
public import Idealize.ShloMosaic.PureOps.Ideal
public import Idealize.ShloMosaic.Lib.StableHlo.Run

@[expose] public section

set_option maxRecDepth 16384

noncomputable section

namespace Cert.KernelIdeal.Run

open Cert.KernelIdeal Cert.KernelIdeal.Gen Idealize.ShloMosaic Idealize.ShloMosaic.TcCoe

/-- A comparison of two small words, made a number: 1 where they are equal, else 0. -/
theorem indicator (a b : ℕ) (ha : a < 2 ^ 32) (hb : b < 2 ^ 32) :
    (FloatOps.uitofp (F := Ideal) FTy.f32 (IntOp.cmpi .eq (BitVec.ofNat 32 a) (BitVec.ofNat 32 b)) : EReal) = if a = b then 1 else 0 := by
  have e : (BitVec.ofNat 32 a = BitVec.ofNat 32 b) ↔ a = b := by
    refine ⟨fun h => ?_, fun h => by rw [h]⟩
    have := congrArg BitVec.toNat h
    rwa [BitVec.toNat_ofNat, BitVec.toNat_ofNat, Nat.mod_eq_of_lt ha, Nat.mod_eq_of_lt hb] at this
  by_cases h : a = b
  · rw [if_pos h, h]
    show (((IntOp.cmpi .eq (BitVec.ofNat 32 b) (BitVec.ofNat 32 b)).toNat : ℝ) : EReal) = 1
    simp [IntOp.cmpi]
  · rw [if_neg h]
    have hc : IntOp.cmpi .eq (BitVec.ofNat 32 a) (BitVec.ofNat 32 b) = 0#1 := by
      show BitVec.ofBool (BitVec.ofNat 32 a == BitVec.ofNat 32 b) = 0#1
      rw [beq_eq_false_iff_ne.2 fun h' => h (e.1 h')]
      rfl
    rw [hc]
    show (((0#1 : BitVec 1).toNat : ℝ) : EReal) = 0
    simp

/-- The sign of a word read signed. -/
def sgn (x : BitVec 32) : BitVec 32 := if x = 0 then 0 else if x.msb = true then -1 else 1

/-- The quotient rounded down, as it is computed from the quotient toward zero. -/
def floorWord (x y : BitVec 32) : BitVec 32 :=
  Scalar.select (IntOp.andi (IntOp.cmpi .ne (sgn x) (sgn y)) (IntOp.cmpi .ne (IntOp.remsi .host x y) 0#32))
    (IntOp.subi (IntOp.divsi .host x y) 1#32) (IntOp.divsi .host x y)

/-- A place over 16 is its feature, however the word division rounds. -/
theorem floor_row : ∀ q : Fin 416, floorWord (BitVec.ofNat 32 q.val) 16#32 = BitVec.ofNat 32 (q.val / 16) := by decide +kernel

/-- A lane over 64 is its feature, however the word division rounds. -/
theorem floor_col : ∀ l : Fin 1664, floorWord (BitVec.ofNat 32 l.val) 64#32 = BitVec.ofNat 32 (l.val / 64) := by decide +kernel

variable (m : (ℓ : Loc nD τ sig) → Buf (Elt Ideal) ℓ) (c : Dev nD)

/-- The left edge of a place. -/
theorem V5_left (q : Fin 416) : (show FVec Ideal S1x416 .f32 from V5 m c (Proc.devRef .tc main_v1)) (ix2 0 q)
    = (show FVec Ideal S26x17 .f32 from m ((c : Thread nD τ).loc main_arg1)) (ix2 ⟨q.val / 16, by omega⟩ ⟨q.val % 16, by omega⟩) := by
  unfold V5 V4 V3 V2 V1 V0
  after_results
  pointwise

/-- The reciprocal of the width of a place. -/
theorem V5_invw (q : Fin 416) : (show FVec Ideal S1x416 .f32 from V5 m c (Proc.devRef .tc main_v7)) (ix2 0 q)
    = Ideal.div 1 ((show FVec Ideal S26x17 .f32 from m ((c : Thread nD τ).loc main_arg1)) (ix2 ⟨q.val / 16, by omega⟩ ⟨1 + q.val % 16, by omega⟩)
       - (show FVec Ideal S26x17 .f32 from m ((c : Thread nD τ).loc main_arg1)) (ix2 ⟨q.val / 16, by omega⟩ ⟨q.val % 16, by omega⟩)) := by
  unfold V5 V4 V3 V2 V1 V0
  after_results
  pointwise

/-- The embedding's row of a place. -/
theorem V5_wemb (q : Fin 416) (d : Fin 64) : (show FVec Ideal S416x64 .f32 from V5 m c (Proc.devRef .tc main_v36)) (ix2 q d)
    = (show FVec Ideal S26x16x64 .f32 from m ((c : Thread nD τ).loc main_arg2)) (ix3 ⟨q.val / 16, by omega⟩ ⟨q.val % 16, by omega⟩ d) := by
  unfold V5 V4 V3 V2 V1 V0
  after_results
  pointwise

/-- The embedding's bias of a lane. -/
theorem V5_bemb (l : Fin 1664) : (show FVec Ideal S1x1664 .f32 from V5 m c (Proc.devRef .tc main_v8)) (ix2 0 l)
    = (show FVec Ideal S26x64 .f32 from m ((c : Thread nD τ).loc main_arg3)) (ix2 ⟨l.val / 64, by omega⟩ ⟨l.val % 64, by omega⟩) := by
  unfold V5 V4 V3 V2 V1 V0
  after_results
  pointwise

/-- 1 where a place belongs to the feature, else 0. -/
theorem V5_rep (n : Fin 26) (q : Fin 416) : (show FVec Ideal S26x416 .f32 from V5 m c (Proc.devRef .tc main_v16)) (ix2 n q)
    = if n.val = q.val / 16 then 1 else 0 := by
  unfold V5 V4 V3 V2 V1 V0
  after_results
  pointwise
  rw [show IntOp.addi (BitVec.ofNat 32 n.val) 0#32 = BitVec.ofNat 32 n.val from BitVec.add_zero _]
  exact indicator _ _ (by omega) (by omega)

/-- 1 where a lane has the embedding's coordinate, else 0. -/
theorem V5_tile (d : Fin 64) (l : Fin 1664) : (show FVec Ideal S64x1664 .f32 from V5 m c (Proc.devRef .tc main_v25)) (ix2 d l)
    = if d.val = l.val % 64 then 1 else 0 := by
  unfold V5 V4 V3 V2 V1 V0
  after_results
  pointwise
  rw [show IntOp.addi (BitVec.ofNat 32 d.val) 0#32 = BitVec.ofNat 32 d.val from BitVec.add_zero _]
  exact indicator _ _ (by omega) (by omega)

/-- 1 where a place and a lane belong to one feature, else 0. -/
theorem V5_mask (q : Fin 416) (l : Fin 1664) : (show FVec Ideal S416x1664 .f32 from V5 m c (Proc.devRef .tc main_v35)) (ix2 q l)
    = if q.val / 16 = l.val / 64 then 1 else 0 := by
  unfold V5 V4 V3 V2 V1 V0
  after_results
  simp only [StableHlo.TRef.toBuf, StableHlo.TRef.ofBuf, cast_eq]
  pointwise
  show FloatOps.uitofp (F := Ideal) FTy.f32 (IntOp.cmpi .eq (floorWord (BitVec.ofNat 32 q.val) 16#32) (floorWord (BitVec.ofNat 32 l.val) 64#32)) = _
  rw [floor_row, floor_col]
  exact indicator _ _ (by omega) (by omega)

end Cert.KernelIdeal.Run

end
-- ==== Proof.PI.Pay.lean ====
/-
The kernel's payloads read at an index: the widened embedding, the token block, the logits, the combine weights, the gated
hidden layer, the experts' sum and the towers, as sums and maxima of extended reals.
-/
module

public import proofs.«01_k».proof.Proof.PI.MoeData
public import proofs.«01_k».proof.Proof.PI.RouteData
public import proofs.«01_k».proof.Proof.Gate
public import Idealize.ShloMosaic.Lib.Pointwise
public import Idealize.ShloMosaic.PureOps.Ideal

@[expose] public section

set_option maxRecDepth 16384

noncomputable section

namespace Cert.KernelIdeal.Run

open Cert.KernelIdeal Cert.KernelIdeal.Gen Idealize.ShloMosaic Idealize.ShloMosaic.TcCoe

/-- The embedding spread over the lanes of its own feature. -/
theorem wide_at (a : FVec Ideal S416x64 .f32) (b : FVec Ideal S64x1664 .f32) (c : FVec Ideal S416x1664 .f32) (r : Fin 416) (l : Fin 1664) :
    k0_pay3 (F := Ideal) a b c (ix2 r l) = (∑ x : Fin 64, a (ix2 r x) * b (ix2 x l)) * c (ix2 r l) := by
  pointwise [k0_pay3]

/-- A token entry: the encoding against the spread embedding, and the bias. -/
theorem tok_at (x0 : FVec Ideal S512x26 .f32) (x1 : FVec Ideal S26x416 .f32) (x2 x3 : FVec Ideal S1x416 .f32) (w : FVec Ideal S416x1664 .f32)
    (x7 : FVec Ideal S1x1664 .f32) (r : Fin 512) (l : Fin 1664) :
    tokBlock (F := Ideal) x0 x1 x2 x3 w x7 (ix2 r l)
      = (∑ q : Fin 416, min 1 (max 0 ((∑ n : Fin 26, x0 (ix2 r n) * x1 (ix2 n q) - x2 (ix2 0 q)) * x3 (ix2 0 q))) * w (ix2 q l))
        + x7 (ix2 0 l) := by
  pointwise [tokBlock, k0_pay2, k0_pay4]

/-- A logit: the token row against the router's column. -/
theorem logit_at (x0 : FVec Ideal S512x26 .f32) (x1 : FVec Ideal S26x416 .f32) (x2 x3 : FVec Ideal S1x416 .f32) (w : FVec Ideal S416x1664 .f32)
    (x7 : FVec Ideal S1x1664 .f32) (x8 : FVec Ideal S1664x8 .f32) (r : Fin 512) (l : Fin 8) :
    k0_pay5 (F := Ideal) x0 x1 x2 x3 w x7 x8 (ix2 r l) = ∑ k : Fin 1664, tokBlock (F := Ideal) x0 x1 x2 x3 w x7 (ix2 r k) * x8 (ix2 k l) := by
  pointwise [k0_pay5, tokBlock, k0_pay2]

/-- The word of `-∞`. -/
theorem ofBits_bot : Ideal.ofBits FTy.f32 4286578688#32 = ⊥ := by
  simp [Ideal.ofBits, Ideal.ieee]

/-- The greatest logit of a row. -/
theorem max_at (x0 : FVec Ideal S512x26 .f32) (x1 : FVec Ideal S26x416 .f32) (x2 x3 : FVec Ideal S1x416 .f32) (w : FVec Ideal S416x1664 .f32)
    (x7 : FVec Ideal S1x1664 .f32) (x8 : FVec Ideal S1664x8 .f32) (r : Fin 512) :
    k0_pay6 (F := Ideal) x0 x1 x2 x3 w x7 x8 (ix2 r 0)
      = Finset.univ.fold max ⊥ (fun j : Fin 8 => k0_pay5 (F := Ideal) x0 x1 x2 x3 w x7 x8 (ix2 r j)) := by
  rw [← ofBits_bot]
  pointwise [k0_pay6]

/-- The lane's number where the lane holds the greatest logit, else 8. -/
theorem first_at (x0 : FVec Ideal S512x26 .f32) (x1 : FVec Ideal S26x416 .f32) (x2 x3 : FVec Ideal S1x416 .f32) (w : FVec Ideal S416x1664 .f32)
    (x7 : FVec Ideal S1x1664 .f32) (x8 : FVec Ideal S1664x8 .f32) (r : Fin 512) (l : Fin 8) :
    k0_pay7 (F := Ideal) x0 x1 x2 x3 w x7 x8 (ix2 r l)
      = if k0_pay5 (F := Ideal) x0 x1 x2 x3 w x7 x8 (ix2 r l) = k0_pay6 (F := Ideal) x0 x1 x2 x3 w x7 x8 (ix2 r 0)
        then BitVec.ofNat 32 l.val else 8#32 := by
  pointwise [k0_pay7]

/-- A lane chosen by a comparison of two lanes' numbers. -/
theorem select_lane {α : Type} (a b : Fin 8) (u v : α) :
    Scalar.select (IntOp.cmpi .eq (BitVec.ofNat 32 a.val) (BitVec.ofNat 32 b.val)) u v = if a = b then u else v := by
  have h : ∀ a b : Fin 8, IntOp.cmpi .eq (BitVec.ofNat 32 a.val) (BitVec.ofNat 32 b.val) = if a = b then 1#1 else 0#1 := by decide +kernel
  rw [h]
  by_cases e : a = b
  · rw [if_pos e, if_pos e]; rfl
  · rw [if_neg e, if_neg e]; rfl

/-- The combine weights the kernel leaves, on finite logits: the two gates at the two best experts. -/
theorem comb_at (lg : FVec Ideal S512x8 .f32) (m : FVec Ideal S512x1 .f32) (i : IVec S512x8 32) (r : Fin 512) (x : Fin 8 → ℝ)
    (hx : ∀ j, lg (ix2 r j) = (x j : EReal))
    (hm : m (ix2 r 0) = Finset.univ.fold max ⊥ (fun j : Fin 8 => lg (ix2 r j)))
    (hi : ∀ j : Fin 8, i (ix2 r j) = if lg (ix2 r j) = m (ix2 r 0) then BitVec.ofNat 32 j.val else 8#32) (l : Fin 8) :
    k0_pay1 (F := Ideal) lg lanes m i (ix2 r l)
      = Gate.weight (fun j => (x j : EReal)) (Gate.place (fun j => (x j : EReal)) 0) (Gate.place (fun j => (x j : EReal)) 1) l := by
  have top := Gate.place_zero fun j => (x j : EReal)
  have second := Gate.place_one fun j => (x j : EReal)
  generalize Gate.place (fun j => (x j : EReal)) 0 = a at top second ⊢
  generalize Gate.place (fun j => (x j : EReal)) 1 = b at second ⊢
  have f1 := Gate.first_eq (fun j => (x j : EReal)) top (fun _ _ => rfl) (fun _ h => absurd trivial h) (EReal.coe_ne_bot _)
  have f2 := Gate.first_eq (fun j => if j = a then ⊥ else (x j : EReal)) second (fun j h => if_neg h) (fun j h => if_pos (not_not.1 h))
    (EReal.coe_ne_bot _)
  simp only [hx] at hm hi
  rw [f1.1] at hm
  simp only [hm] at hi
  have f3 : Finset.univ.fold IntOp.minsi 2147483647#32 (fun j : Fin 8 => i (ix2 r j)) = BitVec.ofNat 32 a.val := by
    simp only [hi]
    exact f1.2
  have f4 : ∀ j : Fin 8, Scalar.select (IntOp.cmpi .eq (BitVec.ofNat 32 j.val) (BitVec.ofNat 32 a.val)) (⊥ : EReal) (x j : EReal)
      = if j = a then ⊥ else (x j : EReal) := fun j => select_lane j a _ _
  pointwise [k0_pay1, lanes]
  simp only [ofBits_bot, hx, hm, f3, f4, f2.1, f2.2, select_lane]
  rfl

/-- The gate an expert's run reads: the combine weight of its own lane. -/
theorem gate_at (g : grid1.Coords) (comb : FVec Ideal S1024x8 .f32) (e : Fin 8) (he : (g 0).val = e.val) (r : Fin 1024) (l : Fin 512) :
    k1_pay9 (F := Ideal) g comb (ix2 r l) = comb (ix2 r e) := by
  pointwise [k1_pay9]
  simp only [he, select_lane]
  rw [Finset.sum_ite_eq' Finset.univ e, if_pos (Finset.mem_univ e)]

/-- An expert's gated hidden layer. -/
theorem hid_at (ge : FVec Ideal S1024x512 .f32) (tok : FVec Ideal S1024x1664 .bf16) (w1 : FVec Ideal S1x1664x512 .f32) (b1 : FVec Ideal S1x1x512 .f32)
   (r : Fin 1024) (l : Fin 512) :
    k1_pay1 (F := Ideal) (k1_pay8 (F := Ideal) tok (k1_pay6 (F := Ideal) w1) b1) ge (ix2 r l)
      = ge (ix2 r l) * max ((∑ k : Fin 1664, tok (ix2 r k) * w1 (ix3 0 k l)) + b1 (ix3 0 0 l)) 0 := by
  pointwise [k1_pay1, k1_pay8, k1_pay6]

/-- An expert's second weights. -/
theorem w2_at (w2 : FVec Ideal S1x512x1664 .f32) (r : Fin 512) (l : Fin 1664) :
    k1_pay7 (F := Ideal) w2 (ix2 r l) = w2 (ix3 0 r l) := by
  pointwise [k1_pay7]

/-- The experts' sum: the gated hidden layers against the second weights, and the gated second biases. -/
theorem moe_at (h : FVec Ideal S1024x4096 .bf16) (w : FVec Ideal S4096x1664 .bf16) (comb : FVec Ideal S1024x8 .f32)
    (b2 : FVec Ideal S8x1664 .f32) (r : Fin 1024) (l : Fin 1664) :
    k1_pay3 (F := Ideal) h w comb b2 (ix2 r l)
      = (∑ x : Fin 4096, h (ix2 r x) * w (ix2 x l)) + ∑ e : Fin 8, comb (ix2 r e) * b2 (ix2 e l) := by
  pointwise [k1_pay3]

/-- The result: one tower per column, over the experts' sum. -/
theorem towers_at (o : Vec Ideal S1024x2 .f32) (h : FVec Ideal S1024x4096 .bf16) (w : FVec Ideal S4096x1664 .bf16) (comb : FVec Ideal S1024x8 .f32)
    (b2 : FVec Ideal S8x1664 .f32) (x6 : FVec Ideal S2x1664x256 .f32) (x7 : FVec Ideal S2x256 .f32) (x8 : FVec Ideal S2x256x1 .f32)
    (x9 : FVec Ideal S2x1 .f32)
   (r : Fin 1024) (l : Fin 2) :
    towers (F := Ideal) o h w comb b2 x6 x7 x8 x9 (ix2 r l) = (∑ x : Fin 256, max ((∑ y : Fin 1664, k1_pay3 (F := Ideal) h w comb b2 (ix2 r y) * x6 (ix3 l y x)) + x7 (ix2 l x)) 0 * x8 (ix3 l x 0)) + x9 (ix2 l 0)  := by
  unfold towers
  pointwise [VecWindow.put, k1_pay2, k1_pay4, k1_pay5]
  match l with
  | 0 =>
    rw [dif_neg (show ¬ 1 ≤ (0 : Fin 2).val by decide), dif_pos (show (0 : Fin 2).val < 1 by decide)]
    rfl
  | 1 =>
    rw [dif_pos (show 1 ≤ (1 : Fin 2).val by decide)]
    rfl

end Cert.KernelIdeal.Run

end
-- ==== Proof.PI.RouteBlocks.lean ====
/-
The blocks the routing region reads, and its two arrays from the two points' blocks.
-/
module

public import proofs.«01_k».proof.Proof.PI.RouteData
public import Idealize.ShloMosaic.Lib.Pointwise
public import Idealize.ShloMosaic.PureOps.Ideal
public import Idealize.ShloMosaic.Lib.Pipeline.ValueKit

@[expose] public section

set_option maxRecDepth 16384

noncomputable section

namespace Cert.KernelIdeal.Run

open Cert.KernelIdeal Cert.KernelIdeal.Gen Idealize.ShloMosaic Idealize.ShloMosaic.TcCoe
open Idealize.ShloMosaic.Pipeline (Dat Cfg Window)

/-- Where the routing region's windows sit: the token rows move with the point, every other window is its array. -/
theorem idx0 : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![t.val, 0] ∧ win0_10.index t = ![t.val, 0] :=
  (by decide +kernel : ∀ t : Fin grid0.N, _)

/-- There are two points. -/
theorem point_lt (t : Fin cfg0.N) : t.val < 2 := Nat.lt_of_lt_of_eq t.isLt N_0

variable (W : Valuation τ sig (Elt Ideal)) (t : Fin cfg0.N)

/-- A point's rows of the features. -/
theorem blk0_0 (r : Fin 512) (n : Fin 26) : (show FVec Ideal S512x26 .f32 from routeBlk W 0 t) (ix2 r n)
    = (show FVec Ideal S1024x26 .f32 from W (Proc.devRef .tc main_arg0)) (ix2 ⟨512 * t.val + r.val, by have := point_lt t; omega⟩ n) := by
  blk_ext [routeBlk, idx0 t]

/-- The feature indicator's block is its array. -/
theorem blk0_1 : (show FVec Ideal S26x416 .f32 from routeBlk W 1 t)
    = (show FVec Ideal S26x416 .f32 from W (Proc.devRef .tc main_v16)) := by
  blk_ext! [routeBlk, idx0 t]

/-- The left edges' block is their array. -/
theorem blk0_2 : (show FVec Ideal S1x416 .f32 from routeBlk W 2 t)
    = (show FVec Ideal S1x416 .f32 from W (Proc.devRef .tc main_v1)) := by
  blk_ext! [routeBlk, idx0 t]

/-- The reciprocal widths' block is their array. -/
theorem blk0_3 : (show FVec Ideal S1x416 .f32 from routeBlk W 3 t)
    = (show FVec Ideal S1x416 .f32 from W (Proc.devRef .tc main_v7)) := by
  blk_ext! [routeBlk, idx0 t]

/-- The embedding's block is its array. -/
theorem blk0_4 : (show FVec Ideal S416x64 .f32 from routeBlk W 4 t)
    = (show FVec Ideal S416x64 .f32 from W (Proc.devRef .tc main_v36)) := by
  blk_ext! [routeBlk, idx0 t]

/-- The coordinate indicator's block is its array. -/
theorem blk0_5 : (show FVec Ideal S64x1664 .f32 from routeBlk W 5 t)
    = (show FVec Ideal S64x1664 .f32 from W (Proc.devRef .tc main_v25)) := by
  blk_ext! [routeBlk, idx0 t]

/-- The feature mask's block is its array. -/
theorem blk0_6 : (show FVec Ideal S416x1664 .f32 from routeBlk W 6 t)
    = (show FVec Ideal S416x1664 .f32 from W (Proc.devRef .tc main_v35)) := by
  blk_ext! [routeBlk, idx0 t]

/-- The bias' block is its array. -/
theorem blk0_7 : (show FVec Ideal S1x1664 .f32 from routeBlk W 7 t)
    = (show FVec Ideal S1x1664 .f32 from W (Proc.devRef .tc main_v8)) := by
  blk_ext! [routeBlk, idx0 t]

/-- The router's block is its array. -/
theorem blk0_8 : (show FVec Ideal S1664x8 .f32 from routeBlk W 8 t)
    = (show FVec Ideal S1664x8 .f32 from W (Proc.devRef .tc main_arg4)) := by
  blk_ext! [routeBlk, idx0 t]

/-- The token array: the two points' blocks, one under the other. -/
theorem tok_arr (c : Dev nD) (G : FVec Ideal S1024x1664 .bf16)
    (h : ∀ (t : Fin cfg0.N) (r : Fin 512) (l : Fin 1664), tokAt W t (ix2 r l) = G (ix2 ⟨512 * t.val + r.val, by have := point_lt t; omega⟩ l)) :
    (routeDat W c).arrAt 9 cfg0.N = G := by
  refine (routeDat W c).arrAt_eq_of_covers 9 G (by decide +kernel) fun t hf y => ?_
  blk_simp
  have e : tokAt W t (show S512x1664.Idx from y) = G (ix2 ⟨512 * t.val + (y 0).val, by have := point_lt t; have h0 : (y 0).val < 512 := (y 0).isLt; omega⟩ (y 1)) :=
    (congrArg (tokAt W t) (eq_ix2 (show S512x1664.Idx from y))).trans (h t (y 0) (y 1))
  refine Eq.trans e ?_
  blk_ext [idx0 t]

/-- The combine array: the two points' blocks, one under the other. -/
theorem comb_arr (c : Dev nD) (G : FVec Ideal S1024x8 .f32)
    (h : ∀ (t : Fin cfg0.N) (r : Fin 512) (l : Fin 8), combAt W t (ix2 r l) = G (ix2 ⟨512 * t.val + r.val, by have := point_lt t; omega⟩ l)) :
    (routeDat W c).arrAt 10 cfg0.N = G := by
  refine (routeDat W c).arrAt_eq_of_covers 10 G (by decide +kernel) fun t hf y => ?_
  blk_simp
  have e : combAt W t (show S512x8.Idx from y) = G (ix2 ⟨512 * t.val + (y 0).val, by have := point_lt t; have h0 : (y 0).val < 512 := (y 0).isLt; omega⟩ (y 1)) :=
    (congrArg (combAt W t) (eq_ix2 (show S512x8.Idx from y))).trans (h t (y 0) (y 1))
  refine Eq.trans e ?_
  blk_ext [idx0 t]

end Cert.KernelIdeal.Run

end
-- ==== Proof.RefStages.lean ====
/-
The reference, cut into its stages: the tokens, the router's logits, the softmax, the two greatest, the combine
weights, the experts and the towers, each the printed operations' own term as a function of typed arrays; and that
what the reference returns is their composition.
-/
module

public import proofs.«01_k».proof.Proof.Gen.ReferenceIdeal.Run
public import Idealize.ShloMosaic.PureOps.Ideal

@[expose] public section

set_option maxRecDepth 16384

noncomputable section

namespace Cert.ReferenceIdeal.Stages

open Cert.ReferenceIdeal Cert.ReferenceIdeal.Gen Idealize.ShloMosaic Idealize.ShloMosaic.TcCoe

/-- The tokens: the encoding of every feature, embedded, with its bias, flattened. -/
def refTok (arg0 : FVec Ideal S1024x26 .f32) (arg1 : FVec Ideal S26x17 .f32) (arg2 : FVec Ideal S26x16x64 .f32)
    (arg3 : FVec Ideal S26x64 .f32) : FVec Ideal S1024x1664 .f32 :=
  shapeCast S1024x1664 (addf (transpose S1024x26x64 [2, 0, 1] (Host.dotGeneral dot_S26x16x64_S1024x26x16_S26x64x1024_1_2_2_0_0_1 none arg2 (minimumf (broadcastInDim S1024x26x16 ![] bcast_S_S1024x26x16 (id (constant S_ .f32 0x3F800000#32))) (maximumf (broadcastInDim S1024x26x16 ![] bcast_S_S1024x26x16 (id (constant S_ .f32 0x00000000#32))) (Host.divf (subf (broadcastInDim S1024x26x16 ![0, 1, 2] bcast_S1024x26x1_S1024x26x16_0_1_2 (broadcastInDim S1024x26x1 ![0, 1] bcast_S1024x26_S1024x26x1_0_1 arg0)) (broadcastInDim S1024x26x16 ![0, 1, 2] bcast_S1x26x16_S1024x26x16_0_1_2 (broadcastInDim S1x26x16 ![1, 2] bcast_S26x16_S1x26x16_1_2 (extractStridedSlice S26x16 ![0, 0] arg1 slices_S26x17_S26x16_0_0)))) (broadcastInDim S1024x26x16 ![0, 1, 2] bcast_S1x26x16_S1024x26x16_0_1_2 (broadcastInDim S1x26x16 ![1, 2] bcast_S26x16_S1x26x16_1_2 (subf (extractStridedSlice S26x16 ![0, 1] arg1 slices_S26x17_S26x16_0_1) (extractStridedSlice S26x16 ![0, 0] arg1 slices_S26x17_S26x16_0_0)))))))) transposes_S26x64x1024_S1024x26x64_2_0_1) (broadcastInDim S1024x26x64 ![0, 1, 2] bcast_S1x26x64_S1024x26x64_0_1_2 (broadcastInDim S1x26x64 ![1, 2] bcast_S26x64_S1x26x64_1_2 arg3))) shapeCasts_S1024x26x64_S1024x1664

/-- The router's logits. -/
def refLogit (tok : FVec Ideal S1024x1664 .f32) (arg4 : FVec Ideal S1664x8 .f32) : FVec Ideal S1024x8 .f32 :=
  Host.dotGeneral dot_S1024x1664_S1664x8_S1024x8_1_0_0_1_n_n none tok arg4

/-- The softmax's numerators: the exponentials of the logits less the row's maximum. -/
def refExp (lg : FVec Ideal S1024x8 .f32) : FVec Ideal S1024x8 .f32 :=
  Host.exp (subf lg (broadcastInDim S1024x8 ![0, 1] bcast_S1024x1_S1024x8_0_1 (broadcastInDim S1024x1 ![0] bcast_S1024_S1024x1_0 (maximumf (broadcastInDim S1024 ![] bcast_S_S1024 (constant S_ .f32 0xFF800000#32)) (Host.reduce FloatOps.maximumf lg (constant S_ .f32 0xFF800000#32) reducesTo_S1024x8_S1024_d1 h_S_)))))

/-- The softmax: the numerators over their sum. -/
def refProb (ex : FVec Ideal S1024x8 .f32) : FVec Ideal S1024x8 .f32 :=
  Host.divf ex (broadcastInDim S1024x8 ![0, 1] bcast_S1024x1_S1024x8_0_1 (broadcastInDim S1024x1 ![0] bcast_S1024_S1024x1_0 (Host.reduceAdd ex (constant S_ .f32 0x00000000#32) reducesTo_S1024x8_S1024_d1 h_S_)))

/-- The two greatest probabilities of a row and their experts. -/
def refTop (p : FVec Ideal S1024x8 .f32) : FVec Ideal S1024x2 .f32 × IVec S1024x2 32 :=
  Host.topK S1024x2 1 (FloatOps.cmpfTotal .gt) p sliceFits_S1024x8_S1024x2

/-- The combine weights: the two probabilities over their sum, added into a table of zeros at their experts. -/
def refComb (vi : FVec Ideal S1024x2 .f32 × IVec S1024x2 32) : FVec Ideal S1024x8 .f32 :=
  Host.scatterAdd scatter_S1024x8_S1024x2x2_S1024x2_n_01_01_2 (broadcastInDim S1024x8 ![] bcast_S_S1024x8 (constant S_ .f32 0x00000000#32)) (concatenate S1024x2x2 2 [⟨S1024x2x1, (broadcastInDim S1024x2x1 ![0, 1] bcast_S1024x2_S1024x2x1_0_1 (broadcastInDim S1024x2 ![0, 1] bcast_S1024x1_S1024x2_0_1 (select (cmpi .slt (broadcastInDim S1024x1 ![0] bcast_S1024_S1024x1_0 (iotaInDim S1024 32 0)) (broadcastInDim S1024x1 ![] bcast_S_S1024x1 (constantI S_ 32 0#32))) (addi (broadcastInDim S1024x1 ![0] bcast_S1024_S1024x1_0 (iotaInDim S1024 32 0)) (broadcastInDim S1024x1 ![] bcast_S_S1024x1 (constantI S_ 32 1024#32))) (broadcastInDim S1024x1 ![0] bcast_S1024_S1024x1_0 (iotaInDim S1024 32 0)))))⟩, ⟨S1024x2x1, (broadcastInDim S1024x2x1 ![0, 1] bcast_S1024x2_S1024x2x1_0_1 (select (cmpi .slt (vi.2) (broadcastInDim S1024x2 ![] bcast_S_S1024x2 (constantI S_ 32 0#32))) (addi (vi.2) (broadcastInDim S1024x2 ![] bcast_S_S1024x2 (constantI S_ 32 8#32))) (vi.2)))⟩] concatenates_S1024x2x1_S1024x2x1_S1024x2x2_d2) (Host.divf (vi.1) (broadcastInDim S1024x2 ![0, 1] bcast_S1024x1_S1024x2_0_1 (broadcastInDim S1024x1 ![0] bcast_S1024_S1024x1_0 (Host.reduceAdd (vi.1) (constant S_ .f32 0x00000000#32) reducesTo_S1024x2_S1024_d1 h_S_))))

/-- The experts' outputs, weighted and summed. -/
def refMoe (tok : FVec Ideal S1024x1664 .f32) (comb : FVec Ideal S1024x8 .f32) (arg5 : FVec Ideal S8x1664x512 .f32)
    (arg6 : FVec Ideal S8x512 .f32) (arg7 : FVec Ideal S8x512x1664 .f32) (arg8 : FVec Ideal S8x1664 .f32) : FVec Ideal S1024x1664 .f32 :=
  Host.dotGeneral dot_S1024x8_S8x1024x1664_S1024x1664_1_0_n_2_0_1 none comb (addf (Host.dotGeneral dot_S8x1024x512_S8x512x1664_S8x1024x1664_2_1_1_2_0_0 none (maximumf (addf (transpose S8x1024x512 [0, 2, 1] (Host.dotGeneral dot_S8x1664x512_S1024x1664_S8x512x1024_1_1_02_0_n_n none arg5 tok) transposes_S8x512x1024_S8x1024x512_0_2_1) (broadcastInDim S8x1024x512 ![0, 1, 2] bcast_S8x1x512_S8x1024x512_0_1_2 (broadcastInDim S8x1x512 ![0, 2] bcast_S8x512_S8x1x512_0_2 arg6))) (broadcastInDim S8x1024x512 ![] bcast_S_S8x1024x512 (constant S_ .f32 0x00000000#32))) arg7) (broadcastInDim S8x1024x1664 ![0, 1, 2] bcast_S8x1x1664_S8x1024x1664_0_1_2 (broadcastInDim S8x1x1664 ![0, 2] bcast_S8x1664_S8x1x1664_0_2 arg8)))

/-- The two towers on the experts' combined output. -/
def refOut (moe : FVec Ideal S1024x1664 .f32) (arg9 : FVec Ideal S2x1664x256 .f32) (arg10 : FVec Ideal S2x256 .f32)
    (arg11 : FVec Ideal S2x256x1 .f32) (arg12 : FVec Ideal S2x1 .f32) : FVec Ideal S1024x2 .f32 :=
  transpose S1024x2 [1, 0] (shapeCast S2x1024 (addf (Host.dotGeneral dot_S2x1024x256_S2x256x1_S2x1024x1_2_1_1_2_0_0 none (maximumf (addf (transpose S2x1024x256 [0, 2, 1] (Host.dotGeneral dot_S2x1664x256_S1024x1664_S2x256x1024_1_1_02_0_n_n none arg9 moe) transposes_S2x256x1024_S2x1024x256_0_2_1) (broadcastInDim S2x1024x256 ![0, 1, 2] bcast_S2x1x256_S2x1024x256_0_1_2 (broadcastInDim S2x1x256 ![0, 2] bcast_S2x256_S2x1x256_0_2 arg10))) (broadcastInDim S2x1024x256 ![] bcast_S_S2x1024x256 (constant S_ .f32 0x00000000#32))) arg11) (broadcastInDim S2x1024x1 ![0, 1, 2] bcast_S2x1x1_S2x1024x1_0_1_2 (broadcastInDim S2x1x1 ![0, 2] bcast_S2x1_S2x1x1_0_2 arg12))) shapeCasts_S2x1024x1_S2x1024) transposes_S2x1024_S1024x2_1_0

/-- What the reference returns, by its stages, of its arguments' contents. -/
theorem res_eq (m : (ℓ : Loc nD τ sig) → Buf (Elt Ideal) ℓ) (c : Dev nD) :
    Value.res_main_v75 m c
      = refOut (refMoe (refTok (m ((c.tc : Thread nD τ).loc main_arg0)) (m ((c.tc : Thread nD τ).loc main_arg1)) (m ((c.tc : Thread nD τ).loc main_arg2)) (m ((c.tc : Thread nD τ).loc main_arg3)))
          (refComb (refTop (refProb (refExp (refLogit (refTok (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)))))))
          (m ((c.tc : Thread nD τ).loc main_arg5)) (m ((c.tc : Thread nD τ).loc main_arg6)) (m ((c.tc : Thread nD τ).loc main_arg7)) (m ((c.tc : Thread nD τ).loc main_arg8))) (m ((c.tc : Thread nD τ).loc main_arg9)) (m ((c.tc : Thread nD τ).loc main_arg10)) (m ((c.tc : Thread nD τ).loc main_arg11)) (m ((c.tc : Thread nD τ).loc main_arg12)) := rfl

end Cert.ReferenceIdeal.Stages

end
-- ==== Proof.RefValue.lean ====
/-
The reference's stages read at an index: the tokens, the logits, the softmax, the two greatest, the combine weights,
the experts and the towers, as sums and maxima of extended reals.
-/
module

public import proofs.«01_k».proof.Proof.RefStages
public import proofs.«01_k».proof.Proof.Gate
public import Idealize.ShloMosaic.Lib.Pointwise
public import Idealize.ShloMosaic.Lib.Routing.OpsPair

@[expose] public section

set_option maxRecDepth 16384

noncomputable section

namespace Cert.ReferenceIdeal.Stages

open Cert.ReferenceIdeal Cert.ReferenceIdeal.Gen Idealize.ShloMosaic Idealize.ShloMosaic.TcCoe

/-- The word of `-∞`. -/
theorem ofBits_bot : Ideal.ofBits FTy.f32 4286578688#32 = ⊥ := by
  simp [Ideal.ofBits, Ideal.ieee]

/-- A token's entry of feature `n`, coordinate `d`: the encoding's sixteen entries against the embedding, and the bias. -/
def tokSum (x : FVec Ideal S1024x26 .f32) (ed : FVec Ideal S26x17 .f32) (we : FVec Ideal S26x16x64 .f32)
    (be : FVec Ideal S26x64 .f32) (r : Fin 1024) (n : Fin 26) (d : Fin 64) : EReal :=
  (∑ k : Fin 16, we (ix3 n k d) * min 1 (max 0 (Ideal.div (x (ix2 r n) - ed (ix2 n ⟨k.val, by omega⟩))
    (ed (ix2 n ⟨1 + k.val, by omega⟩) - ed (ix2 n ⟨k.val, by omega⟩))))) + be (ix2 n d)

/-- A token entry. -/
theorem tok_at (x : FVec Ideal S1024x26 .f32) (ed : FVec Ideal S26x17 .f32) (we : FVec Ideal S26x16x64 .f32)
    (be : FVec Ideal S26x64 .f32) (r : Fin 1024) (l : Fin 1664) :
    refTok x ed we be (ix2 r l) = tokSum x ed we be r ⟨l.val / 64, by omega⟩ ⟨l.val % 64, by omega⟩ := by
  pointwise [refTok, tokSum, id_eq]

/-- A logit: the token row against the router's column. -/
theorem logit_at (tok : FVec Ideal S1024x1664 .f32) (wr : FVec Ideal S1664x8 .f32) (r : Fin 1024) (l : Fin 8) :
    refLogit tok wr (ix2 r l) = ∑ k : Fin 1664, tok (ix2 r k) * wr (ix2 k l) := by
  pointwise [refLogit]

/-- The softmax of a row of logits. -/
theorem prob_at (lg : FVec Ideal S1024x8 .f32) (r : Fin 1024) (l : Fin 8) :
    refProb (refExp lg) (ix2 r l) = Gate.prob (fun j => lg (ix2 r j)) l := by
  have e : ∀ j : Fin 8, refExp lg (ix2 r j)
      = Ideal.exp (lg (ix2 r j) - max ⊥ (Finset.univ.fold max ⊥ fun x : Fin 8 => lg (ix2 r x))) := fun j => by
    rw [← ofBits_bot]
    pointwise [refExp]
  pointwise [refProb]
  simp only [e]
  rfl

/-- Moving along the lanes of a row. -/
theorem along_lane (r : Fin 1024) (a k : Fin 8) : (ix2 r a : S1024x8.Idx).along (1 : Fin 2) k = ix2 r k := by
  funext b
  match b with
  | 0 => rfl
  | 1 => rfl

/-- The order that the selection of the greatest entries sorts by. -/
theorem greater_iff (a b : EReal) : (FloatOps.cmpfTotal (F := Ideal) (φ := .f32) .gt a b == 1#1) = decide (b < a) := by
  show (BitVec.ofBool (decide (b < a)) == 1#1) = decide (b < a)
  cases decide (b < a) <;> rfl

/-- The two greatest entries of a row. -/
theorem top_fst (p : FVec Ideal S1024x8 .f32) (r : Fin 1024) (k : Fin 2) :
    (refTop p).1 (ix2 r k) = p (ix2 r (Gate.place (fun j => p (ix2 r j)) ⟨k.val, by omega⟩)) := by
  unfold refTop Host.topK
  pointwise [Host.sort2]
  simp only [along_lane, greater_iff]
  rfl

/-- The lanes of the two greatest entries of a row. -/
theorem top_snd (p : FVec Ideal S1024x8 .f32) (r : Fin 1024) (k : Fin 2) :
    (refTop p).2 (ix2 r k) = BitVec.ofNat 32 (Gate.place (fun j => p (ix2 r j)) ⟨k.val, by omega⟩).val := by
  unfold refTop Host.topK
  pointwise [Host.sort2]
  simp only [along_lane, greater_iff]
  rfl

/-- Where an update of the combine table lands. -/
theorem lands (idx : IVec S1024x2x2 32) (q : Fin 1024) (k : Fin 2) (r : Fin 1024) (l : Fin 8) :
    scatter_S1024x8_S1024x2x2_S1024x2_n_01_01_2.resultIdx? (ix2 q k) idx = some (ix2 r l)
      ↔ (idx (ix3 q k 0)).toInt = r.val ∧ (idx (ix3 q k 1)).toInt = l.val := by
  have hst : ∀ p : Fin 2, scatter_S1024x8_S1024x2x2_S1024x2_n_01_01_2.start (ix2 q k) idx p = (idx (ix3 q k p)).toInt := fun p => by
    have hm : p ∈ scatter_S1024x8_S1024x2x2_S1024x2_n_01_01_2.scatterDimsToOperandDims := by
      match p with
      | 0 => decide
      | 1 => decide
    have hsi : scatter_S1024x8_S1024x2x2_S1024x2_n_01_01_2.siIdx (ix2 q k)
        ⟨scatter_S1024x8_S1024x2x2_S1024x2_n_01_01_2.scatterDimsToOperandDims.idxOf p, List.idxOf_lt_length_iff.2 hm⟩ = ix3 q k p := by
      funext b
      apply Fin.ext
      match b with
      | 0 => rfl
      | 1 => rfl
      | 2 =>
        match p with
        | 0 => rfl
        | 1 => rfl
    unfold ScatterDims.start
    rw [dif_pos hm, hsi]
  have hwin : ∀ p : Fin 2, scatter_S1024x8_S1024x2x2_S1024x2_n_01_01_2.window (ix2 q k) p = 0 := fun p => by
    match p with
    | 0 => rfl
    | 1 => rfl
  refine (Routing.resultIdx?_ix2 _ _ _ _ _).trans ?_
  rw [hst, hst, hwin, hwin]
  omega

/-- The scatter's sum, over the updates by row and place. -/
theorem scatter_at (x : FVec Ideal S1024x8 .f32) (idx : IVec S1024x2x2 32) (upd : FVec Ideal S1024x2 .f32) (r : Fin 1024) (l : Fin 8) :
    Host.scatterAdd scatter_S1024x8_S1024x2x2_S1024x2_n_01_01_2 x idx upd (ix2 r l)
      = x (ix2 r l) + ∑ q : Fin 1024, ∑ k : Fin 2,
          if (idx (ix3 q k 0)).toInt = r.val ∧ (idx (ix3 q k 1)).toInt = l.val then upd (ix2 q k) else 0 := by
  have e : Host.scatterAdd scatter_S1024x8_S1024x2x2_S1024x2_n_01_01_2 x idx upd (ix2 r l)
      = x (ix2 r l) + ∑ j ∈ Finset.univ.filter
          (fun j => scatter_S1024x8_S1024x2x2_S1024x2_n_01_01_2.resultIdx? j idx = some (ix2 r l)), upd j := rfl
  rw [e, Finset.sum_filter, sum_idx2]
  simp only [lands]

/-- The combine weights: at a row's two experts the two probabilities over their sum. -/
theorem comb_at (vi : FVec Ideal S1024x2 .f32 × IVec S1024x2 32) (s : Fin 1024 → Fin 2 → Fin 8)
    (hs : ∀ r k, vi.2 (ix2 r k) = BitVec.ofNat 32 (s r k).val) (r : Fin 1024) (l : Fin 8) :
    refComb vi (ix2 r l)
      = ∑ k : Fin 2, if l = s r k then Ideal.div (vi.1 (ix2 r k)) (∑ k' : Fin 2, vi.1 (ix2 r k')) else 0 := by
  have w : ∀ (n : ℕ) (a : BitVec 32), n < 2 ^ 31 → Scalar.select (IntOp.cmpi .slt (BitVec.ofNat 32 n) 0#32) a (BitVec.ofNat 32 n)
      = BitVec.ofNat 32 n := fun n a hn =>
    Routing.wrap_of_lt _ _ (by rw [BitVec.toNat_ofNat]; exact lt_of_le_of_lt (Nat.mod_le _ _) hn)
  unfold refComb
  rw [scatter_at]
  pointwise
  have hq : ∀ q : Fin 1024, q.val < 2 ^ 31 := fun q => q.isLt.trans (by decide)
  have hk : ∀ q k, (s q k).val < 2 ^ 31 := fun q k => (s q k).isLt.trans (by decide)
  simp only [hs, w _ _ (hq _), w _ _ (hk _ _), StableHlo.Predicate.toInt_ofNat_small _ (hq _),
    StableHlo.Predicate.toInt_ofNat_small _ (hk _ _)]
  rw [Finset.sum_eq_single r]
  · refine Finset.sum_congr rfl fun k _ => ?_
    by_cases h : l = s r k
    · rw [if_pos h, if_pos ⟨rfl, by rw [h]⟩]
    · rw [if_neg h, if_neg fun h' => h (Fin.ext (Int.ofNat.inj h'.2.symm))]
  · intro q _ hq'
    exact Finset.sum_eq_zero fun k _ => if_neg fun h' => hq' (Fin.ext (Int.ofNat.inj h'.1))
  · exact fun h => absurd (Finset.mem_univ r) h

/-- The experts' outputs, weighted and summed. -/
theorem moe_at (tok : FVec Ideal S1024x1664 .f32) (comb : FVec Ideal S1024x8 .f32) (w1 : FVec Ideal S8x1664x512 .f32)
    (b1 : FVec Ideal S8x512 .f32) (w2 : FVec Ideal S8x512x1664 .f32) (b2 : FVec Ideal S8x1664 .f32) (r : Fin 1024) (l : Fin 1664) :
    refMoe tok comb w1 b1 w2 b2 (ix2 r l)
      = ∑ e : Fin 8, comb (ix2 r e) * ((∑ f : Fin 512, max ((∑ k : Fin 1664, w1 (ix3 e k f) * tok (ix2 r k)) + b1 (ix2 e f)) 0
          * w2 (ix3 e f l)) + b2 (ix2 e l)) := by
  pointwise [refMoe]

/-- The towers over the experts' sum. -/
theorem out_at (moe : FVec Ideal S1024x1664 .f32) (wt1 : FVec Ideal S2x1664x256 .f32) (bt1 : FVec Ideal S2x256 .f32)
    (wt2 : FVec Ideal S2x256x1 .f32) (bt2 : FVec Ideal S2x1 .f32) (r : Fin 1024) (l : Fin 2) :
    refOut moe wt1 bt1 wt2 bt2 (ix2 r l)
      = (∑ h : Fin 256, max ((∑ k : Fin 1664, wt1 (ix3 l k h) * moe (ix2 r k)) + bt1 (ix2 l h)) 0 * wt2 (ix3 l h 0))
        + bt2 (ix2 l 0) := by
  pointwise [refOut]

end Cert.ReferenceIdeal.Stages

end
-- ==== Proof.RefWeight.lean ====
/-
The reference's combine weights on finite logits: the softmax's two greatest entries over their sum, at their experts.
-/
module

public import proofs.«01_k».proof.Proof.RefValue

@[expose] public section

set_option maxRecDepth 16384

noncomputable section

namespace Cert.ReferenceIdeal.Stages

open Cert.ReferenceIdeal Cert.ReferenceIdeal.Gen Idealize.ShloMosaic Idealize.ShloMosaic.TcCoe

/-- On finite logits the combine weights are the two gates at the two best experts. -/
theorem weight_at (lg : FVec Ideal S1024x8 .f32) (r : Fin 1024) (x : Fin 8 → ℝ) (hx : ∀ j, lg (ix2 r j) = (x j : EReal)) (l : Fin 8) :
    refComb (refTop (refProb (refExp lg))) (ix2 r l)
      = Gate.weight (fun j => (x j : EReal)) (Gate.place (fun j => (x j : EReal)) 0) (Gate.place (fun j => (x j : EReal)) 1) l := by
  have hp : (fun j => refProb (refExp lg) (ix2 r j)) = Gate.prob fun j => (x j : EReal) := by
    funext j
    rw [prob_at]
    simp only [hx]
  have e0 : Gate.place (Gate.prob fun j => (x j : EReal)) 0 = Gate.place (fun j => (x j : EReal)) 0 :=
    ((Gate.place_zero _).of_order (Gate.prob_lt x)).unique (Gate.place_zero _)
  have e1 : Gate.place (Gate.prob fun j => (x j : EReal)) 1 = Gate.place (fun j => (x j : EReal)) 1 := by
    have h := (Gate.place_one (Gate.prob fun j => (x j : EReal))).of_order (Gate.prob_lt x)
    rw [e0] at h
    exact h.unique (Gate.place_one _)
  have hp' : ∀ j, refProb (refExp lg) (ix2 r j) = Gate.prob (fun j => (x j : EReal)) j := fun j => congrFun hp j
  rw [comb_at _ (fun r k => Gate.place (fun j => refProb (refExp lg) (ix2 r j)) ⟨k.val, by omega⟩) (fun r k => top_snd _ r k)]
  simp only [top_fst, Fin.sum_univ_two]
  rw [hp]
  simp only [hp']
  show (if l = Gate.place (Gate.prob fun j => (x j : EReal)) 0 then
        Ideal.div (Gate.prob (fun j => (x j : EReal)) (Gate.place (Gate.prob fun j => (x j : EReal)) 0))
          (Gate.prob (fun j => (x j : EReal)) (Gate.place (Gate.prob fun j => (x j : EReal)) 0)
            + Gate.prob (fun j => (x j : EReal)) (Gate.place (Gate.prob fun j => (x j : EReal)) 1)) else 0)
      + (if l = Gate.place (Gate.prob fun j => (x j : EReal)) 1 then
        Ideal.div (Gate.prob (fun j => (x j : EReal)) (Gate.place (Gate.prob fun j => (x j : EReal)) 1))
          (Gate.prob (fun j => (x j : EReal)) (Gate.place (Gate.prob fun j => (x j : EReal)) 0)
            + Gate.prob (fun j => (x j : EReal)) (Gate.place (Gate.prob fun j => (x j : EReal)) 1)) else 0) = _
  rw [e0, e1, (Gate.gate_eq x _ _).1, (Gate.gate_eq x _ _).2]
  rfl

end Cert.ReferenceIdeal.Stages

end
-- ==== Proof.PI.RouteValue.lean ====
/-
What the routing region computes: the reference's tokens and, on finite logits, its combine weights.
-/
module

public import proofs.«01_k».proof.Proof.PI.HostValue
public import proofs.«01_k».proof.Proof.PI.Pay
public import proofs.«01_k».proof.Proof.PI.RouteBlocks
public import proofs.«01_k».proof.Proof.Encode
public import proofs.«01_k».proof.Proof.RefWeight

@[expose] public section

set_option maxRecDepth 16384

noncomputable section

namespace Cert.KernelIdeal.Run

open Cert.KernelIdeal Cert.KernelIdeal.Gen Idealize.ShloMosaic Idealize.ShloMosaic.TcCoe
open Cert.ReferenceIdeal.Stages (tokSum refTok refLogit refExp refProb refTop refComb)

/-- The spread embedding at a row and a lane: the row's own entry on its feature's lanes, 0 elsewhere. -/
theorem wide_of (a : FVec Ideal S416x64 .f32) (b : FVec Ideal S64x1664 .f32) (c : FVec Ideal S416x1664 .f32) (q : Fin 416) (l : Fin 1664)
    (E : Fin 64 → EReal) (ha : ∀ d, a (ix2 q d) = E d) (hb : ∀ d : Fin 64, b (ix2 d l) = if d.val = l.val % 64 then 1 else 0)
    (hc : c (ix2 q l) = if q.val / 16 = l.val / 64 then 1 else 0) :
    k0_pay3 (F := Ideal) a b c (ix2 q l) = E ⟨l.val % 64, by omega⟩ * (if q.val / 16 = l.val / 64 then 1 else 0) := by
  rw [wide_at, hc]
  simp only [ha, hb]
  rw [Encode.sum_pick E (l.val % 64) (by omega)]

/-- The token block over the prepared operands is the reference's token rows. -/
theorem tok_of (x0 : FVec Ideal S512x26 .f32) (x1 : FVec Ideal S26x416 .f32) (x2 x3 : FVec Ideal S1x416 .f32) (w : FVec Ideal S416x1664 .f32)
    (x7 : FVec Ideal S1x1664 .f32) (x : FVec Ideal S1024x26 .f32) (ed : FVec Ideal S26x17 .f32) (we : FVec Ideal S26x16x64 .f32)
    (be : FVec Ideal S26x64 .f32) (r : Fin 512) (R : Fin 1024) (l : Fin 1664)
    (h0 : ∀ n, x0 (ix2 r n) = x (ix2 R n))
    (h1 : ∀ (n : Fin 26) (q : Fin 416), x1 (ix2 n q) = if n.val = q.val / 16 then 1 else 0)
    (h2 : ∀ q : Fin 416, x2 (ix2 0 q) = ed (ix2 ⟨q.val / 16, by omega⟩ ⟨q.val % 16, by omega⟩))
    (h3 : ∀ q : Fin 416, x3 (ix2 0 q) = Ideal.div 1 (ed (ix2 ⟨q.val / 16, by omega⟩ ⟨1 + q.val % 16, by omega⟩)
      - ed (ix2 ⟨q.val / 16, by omega⟩ ⟨q.val % 16, by omega⟩)))
    (hw : ∀ q : Fin 416, w (ix2 q l) = we (ix3 ⟨q.val / 16, by omega⟩ ⟨q.val % 16, by omega⟩ ⟨l.val % 64, by omega⟩)
      * (if q.val / 16 = l.val / 64 then 1 else 0))
    (h7 : x7 (ix2 0 l) = be (ix2 ⟨l.val / 64, by omega⟩ ⟨l.val % 64, by omega⟩)) :
    tokBlock (F := Ideal) x0 x1 x2 x3 w x7 (ix2 r l) = refTok x ed we be (ix2 R l) := by
  rw [tok_at, Cert.ReferenceIdeal.Stages.tok_at, h7]
  unfold tokSum
  refine congrArg (· + _) ?_
  have e : ∀ q : Fin 416, ∑ n : Fin 26, x0 (ix2 r n) * x1 (ix2 n q) = x (ix2 R ⟨q.val / 16, by omega⟩) := fun q => by
    simp only [h0, h1]
    exact Encode.sum_pick (fun n => x (ix2 R n)) (q.val / 16) (by omega)
  simp only [e, h2, h3, hw, Encode.clip_div]
  refine Eq.trans (Finset.sum_congr rfl fun q _ => ?_) (Encode.sum_feature (fun n k =>
    we (ix3 n k ⟨l.val % 64, by omega⟩) * min 1 (max 0 (Ideal.div (x (ix2 R n) - ed (ix2 n ⟨k.val, by omega⟩))
      (ed (ix2 n ⟨1 + k.val, by omega⟩) - ed (ix2 n ⟨k.val, by omega⟩))))) (l.val / 64) (by omega))
  rw [← mul_assoc]
  exact congrArg (· * _) (mul_comm _ _)

/-- The combine block over the reference's tokens is the reference's combine weights, on finite logits. -/
theorem comb_of (x0 : FVec Ideal S512x26 .f32) (x1 : FVec Ideal S26x416 .f32) (x2 x3 : FVec Ideal S1x416 .f32) (w : FVec Ideal S416x1664 .f32)
    (x7 : FVec Ideal S1x1664 .f32) (x8 : FVec Ideal S1664x8 .f32) (tok : FVec Ideal S1024x1664 .f32) (wr : FVec Ideal S1664x8 .f32)
    (r : Fin 512) (R : Fin 1024) (ht : ∀ k, tokBlock (F := Ideal) x0 x1 x2 x3 w x7 (ix2 r k) = tok (ix2 R k))
    (h8 : ∀ k j, x8 (ix2 k j) = wr (ix2 k j)) (x : Fin 8 → ℝ) (hx : ∀ j, refLogit tok wr (ix2 R j) = (x j : EReal)) (l : Fin 8) :
    combBlock (F := Ideal) x0 x1 x2 x3 w x7 x8 (ix2 r l) = refComb (refTop (refProb (refExp (refLogit tok wr)))) (ix2 R l) := by
  rw [Cert.ReferenceIdeal.Stages.weight_at _ R x hx l]
  unfold combBlock
  refine comb_at _ _ _ r x (fun j => ?_) (max_at _ _ _ _ _ _ _ r) (fun j => first_at _ _ _ _ _ _ _ r j) l
  rw [← hx j, logit_at, Cert.ReferenceIdeal.Stages.logit_at]
  simp only [ht, h8]

variable (m : (ℓ : Loc nD τ sig) → Buf (Elt Ideal) ℓ) (c : Dev nD)

/-- The launch's array of an argument, before the first region. -/
theorem V5_arg (r : Ref sig .tc) (h5 : r ∉ hostOps0_4_W) (h4 : r ∉ hostOps0_3_W) (h3 : r ∉ hostOps0_2_W) (h2 : r ∉ hostOps0_1_W)
    (h1 : r ∉ hostOps0_W) : V5 m c r = m ((c : Thread nD τ).loc r) :=
  (V5_of m c r h5).trans <| (V4_of m c r h4).trans <| (V3_of m c r h3).trans <| (V2_of m c r h2).trans <| (V1_of m c r h1).trans rfl

/-- The reference's tokens, of the launch's arguments. -/
def tokens : FVec Ideal S1024x1664 .f32 :=
  refTok (m ((c : Thread nD τ).loc main_arg0)) (m ((c : Thread nD τ).loc main_arg1)) (m ((c : Thread nD τ).loc main_arg2))
    (m ((c : Thread nD τ).loc main_arg3))

/-- The reference's combine weights, of the launch's arguments. -/
def gatesOf : FVec Ideal S1024x8 .f32 :=
  refComb (refTop (refProb (refExp (refLogit (tokens m c) (m ((c : Thread nD τ).loc main_arg4))))))

/-- A point's token block is the reference's token rows. -/
theorem tok_point (t : Fin cfg0.N) (r : Fin 512) (l : Fin 1664) :
    tokAt (V5 m c) t (ix2 r l) = tokens m c (ix2 ⟨512 * t.val + r.val, by have := point_lt t; omega⟩ l) := by
  unfold tokAt tokens
  refine tok_of _ _ _ _ _ _ _ _ _ _ r _ l (fun n => (blk0_0 _ t r n).trans (congrFun (V5_arg m c main_arg0 (by decide) (by decide) (by decide) (by decide) (by decide)) _))
    (fun n q => (congrFun (blk0_1 _ t) _).trans (V5_rep m c n q)) (fun q => (congrFun (blk0_2 _ t) _).trans (V5_left m c q))
    (fun q => (congrFun (blk0_3 _ t) _).trans (V5_invw m c q)) (fun q => ?_) ((congrFun (blk0_7 _ t) _).trans (V5_bemb m c l))
  unfold wideW
  exact wide_of _ _ _ q l (fun d => (show FVec Ideal S26x16x64 .f32 from m ((c : Thread nD τ).loc main_arg2)) (ix3 ⟨q.val / 16, by omega⟩ ⟨q.val % 16, by omega⟩ d))
    (fun d => (congrFun (blk0_4 _ t0_0) _).trans (V5_wemb m c q d))
    (fun d => (congrFun (blk0_5 _ t0_0) _).trans (V5_tile m c d l)) ((congrFun (blk0_6 _ t0_0) _).trans (V5_mask m c q l))

/-- The token array after the region. -/
theorem tok_final : (show FVec Ideal S1024x1664 .f32 from Y6 m c (Proc.devRef .tc main_v37_0)) = tokens m c :=
  (Y6_tok m c).trans (tok_arr (V5 m c) c (tokens m c) (tok_point m c))

/-- Real embedding and router weights make real logits. -/
theorem logit_real (h2 : ∀ i, ∃ z : ℝ, (show FVec Ideal S26x16x64 .f32 from m ((c : Thread nD τ).loc main_arg2)) i = (z : EReal))
    (h3 : ∀ i, ∃ z : ℝ, (show FVec Ideal S26x64 .f32 from m ((c : Thread nD τ).loc main_arg3)) i = (z : EReal))
    (h4 : ∀ i, ∃ z : ℝ, (show FVec Ideal S1664x8 .f32 from m ((c : Thread nD τ).loc main_arg4)) i = (z : EReal))
    (R : Fin 1024) (j : Fin 8) : ∃ y : ℝ, refLogit (tokens m c) (m ((c : Thread nD τ).loc main_arg4)) (ix2 R j) = (y : EReal) := by
  rw [Cert.ReferenceIdeal.Stages.logit_at]
  refine Encode.sum_real _ fun k => Encode.mul_real ?_ (h4 _)
  unfold tokens
  rw [Cert.ReferenceIdeal.Stages.tok_at]
  unfold tokSum
  exact Encode.add_real (Encode.sum_real _ fun k => Encode.mul_real (h2 _) (Encode.clip_real _)) (h3 _)

/-- The combine array after the region, on finite logits. -/
theorem comb_final (hx : ∀ R j, ∃ y : ℝ, refLogit (tokens m c) (m ((c : Thread nD τ).loc main_arg4)) (ix2 R j) = (y : EReal)) :
    (show FVec Ideal S1024x8 .f32 from Y6 m c (Proc.devRef .tc main_v37_1)) = gatesOf m c := by
  choose x hx using hx
  refine (Y6_comb m c).trans (comb_arr (V5 m c) c (gatesOf m c) fun t r l => ?_)
  unfold combAt gatesOf
  exact comb_of _ _ _ _ _ _ _ (tokens m c) _ r _ (fun k => tok_point m c t r k)
    (fun k j => (congrFun (blk0_8 _ t) _).trans (congrFun (V5_arg m c main_arg4 (by decide) (by decide) (by decide) (by decide) (by decide)) _))
    (x _) (hx _) l

/-- On finite logits the combine weights are finite and not negative. -/
theorem gates_range (hx : ∀ R j, ∃ y : ℝ, refLogit (tokens m c) (m ((c : Thread nD τ).loc main_arg4)) (ix2 R j) = (y : EReal))
    (R : Fin 1024) (l : Fin 8) : 0 ≤ gatesOf m c (ix2 R l) ∧ gatesOf m c (ix2 R l) ≠ ⊤ := by
  choose x hx using hx
  unfold gatesOf
  rw [Cert.ReferenceIdeal.Stages.weight_at _ R (x R) (hx R) l]
  exact Gate.weight_range _ _ _ l

end Cert.KernelIdeal.Run

end
-- ==== Proof.PI.MoeBlocks.lean ====
/-
The blocks the experts' region reads, and its result array from the last point's block.
-/
module

public import proofs.«01_k».proof.Proof.PI.MoeData
public import Idealize.ShloMosaic.Lib.Pointwise
public import Idealize.ShloMosaic.PureOps.Ideal
public import Idealize.ShloMosaic.Lib.Pipeline.ValueKit

@[expose] public section

set_option maxRecDepth 16384

noncomputable section

namespace Cert.KernelIdeal.Run

open Cert.KernelIdeal Cert.KernelIdeal.Gen Idealize.ShloMosaic Idealize.ShloMosaic.TcCoe
open Idealize.ShloMosaic.Pipeline (Dat Cfg Window)

/-- Where the experts' windows sit: the expert's first weights, first bias and second weights move with the point, every
    other window is its array. -/
theorem idx1 : ∀ t : Fin cfg1.N, win1_0.index t = ![0, 0] ∧ win1_1.index t = ![0, 0] ∧ win1_2.index t = ![t.val, 0, 0]
    ∧ win1_3.index t = ![t.val, 0, 0] ∧ win1_4.index t = ![t.val, 0, 0] ∧ win1_5.index t = ![0, 0] ∧ win1_6.index t = ![0, 0, 0]
    ∧ win1_7.index t = ![0, 0] ∧ win1_8.index t = ![0, 0, 0] ∧ win1_9.index t = ![0, 0] ∧ win1_10.index t = ![0, 0] :=
  (by decide +kernel : ∀ t : Fin grid1.N, _)

/-- The point's expert. -/
theorem expert_coord : ∀ t : Fin cfg1.N, (grid1.coords t 0).val = t.val := (by decide +kernel : ∀ t : Fin grid1.N, _)

/-- There are eight points. -/
theorem expert_lt' (t : Fin cfg1.N) : t.val < 8 := Nat.lt_of_lt_of_eq t.isLt N_1

variable (W : Valuation τ sig (Elt Ideal)) (t : Fin cfg1.N)

/-- The tokens' block is their array. -/
theorem blk1_0 : (show FVec Ideal S1024x1664 .bf16 from moeBlk W 0 t)
    = (show FVec Ideal S1024x1664 .bf16 from W (Proc.devRef .tc main_v37_0)) := by
  blk_ext! [moeBlk, idx1 t]

/-- The combine weights' block is their array. -/
theorem blk1_1 : (show FVec Ideal S1024x8 .f32 from moeBlk W 1 t)
    = (show FVec Ideal S1024x8 .f32 from W (Proc.devRef .tc main_v37_1)) := by
  blk_ext! [moeBlk, idx1 t]

/-- The first weights of the point's expert. -/
theorem blk1_2 (k : Fin 1664) (f : Fin 512) : (show FVec Ideal S1x1664x512 .f32 from moeBlk W 2 t) (ix3 0 k f)
    = (show FVec Ideal S8x1664x512 .f32 from W (Proc.devRef .tc main_arg5)) (ix3 ⟨t.val, expert_lt' t⟩ k f) := by
  blk_ext [moeBlk, idx1 t]

/-- The first bias of the point's expert. -/
theorem blk1_3 (f : Fin 512) : (show FVec Ideal S1x1x512 .f32 from moeBlk W 3 t) (ix3 0 0 f)
    = (show FVec Ideal S8x1x512 .f32 from W (Proc.devRef .tc main_v38)) (ix3 ⟨t.val, expert_lt' t⟩ 0 f) := by
  blk_ext [moeBlk, idx1 t]

/-- The second weights of the point's expert. -/
theorem blk1_4 (f : Fin 512) (l : Fin 1664) : (show FVec Ideal S1x512x1664 .f32 from moeBlk W 4 t) (ix3 0 f l)
    = (show FVec Ideal S8x512x1664 .f32 from W (Proc.devRef .tc main_arg7)) (ix3 ⟨t.val, expert_lt' t⟩ f l) := by
  blk_ext [moeBlk, idx1 t]

/-- The second biases' block is their array. -/
theorem blk1_5 : (show FVec Ideal S8x1664 .f32 from moeBlk W 5 t)
    = (show FVec Ideal S8x1664 .f32 from W (Proc.devRef .tc main_arg8)) := by
  blk_ext! [moeBlk, idx1 t]

/-- The towers' first weights' block is their array. -/
theorem blk1_6 : (show FVec Ideal S2x1664x256 .f32 from moeBlk W 6 t)
    = (show FVec Ideal S2x1664x256 .f32 from W (Proc.devRef .tc main_arg9)) := by
  blk_ext! [moeBlk, idx1 t]

/-- The towers' first biases' block is their array. -/
theorem blk1_7 : (show FVec Ideal S2x256 .f32 from moeBlk W 7 t)
    = (show FVec Ideal S2x256 .f32 from W (Proc.devRef .tc main_arg10)) := by
  blk_ext! [moeBlk, idx1 t]

/-- The towers' second weights' block is their array. -/
theorem blk1_8 : (show FVec Ideal S2x256x1 .f32 from moeBlk W 8 t)
    = (show FVec Ideal S2x256x1 .f32 from W (Proc.devRef .tc main_arg11)) := by
  blk_ext! [moeBlk, idx1 t]

/-- The towers' second biases' block is their array. -/
theorem blk1_9 : (show FVec Ideal S2x1 .f32 from moeBlk W 9 t)
    = (show FVec Ideal S2x1 .f32 from W (Proc.devRef .tc main_arg12)) := by
  blk_ext! [moeBlk, idx1 t]

/-- The result array is the last point's block. -/
theorem res_arr (c : Dev nD) : (moeDat W c).arrAt 10 cfg1.N = resAll W := by
  refine (moeDat W c).arrAt_eq_of_covers 10 (resAll W) (by decide +kernel) fun t hf y => ?_
  blk_simp
  refine (show (moeDat W c).after 10 t y = resAll W (show S1024x2.Idx from y) from rfl).trans ?_
  blk_ext [idx1 t]

end Cert.KernelIdeal.Run

end
-- ==== Proof.PI.MoeValue.lean ====
/-
What the experts' region computes, over any tokens and finite combine weights: the reference's experts and towers.
-/
module

public import proofs.«01_k».proof.Proof.PI.Pay
public import proofs.«01_k».proof.Proof.PI.MoeBlocks
public import proofs.«01_k».proof.Proof.RefValue

@[expose] public section

set_option maxRecDepth 16384

noncomputable section

namespace Cert.KernelIdeal.Run

open Cert.KernelIdeal Cert.KernelIdeal.Gen Idealize.ShloMosaic Idealize.ShloMosaic.TcCoe
open Cert.ReferenceIdeal.Stages (refMoe refOut)

/-- The experts' sum: gating before the second product is gating after it, the gates being finite and not negative. -/
theorem moe_of (h : FVec Ideal S1024x4096 .bf16) (w : FVec Ideal S4096x1664 .bf16) (tok : FVec Ideal S1024x1664 .f32)
    (comb : FVec Ideal S1024x8 .f32) (w1 : FVec Ideal S8x1664x512 .f32) (b1 : FVec Ideal S8x512 .f32) (w2 : FVec Ideal S8x512x1664 .f32)
    (b2 : FVec Ideal S8x1664 .f32) (r : Fin 1024) (l : Fin 1664)
    (hh : ∀ (e : Fin 8) (f : Fin 512), h (ix2 r ⟨e.val * 512 + f.val, by omega⟩)
      = comb (ix2 r e) * max ((∑ k : Fin 1664, tok (ix2 r k) * w1 (ix3 e k f)) + b1 (ix2 e f)) 0)
    (hw : ∀ (e : Fin 8) (f : Fin 512), w (ix2 ⟨e.val * 512 + f.val, by omega⟩ l) = w2 (ix3 e f l))
    (h0 : ∀ e, 0 ≤ comb (ix2 r e)) (ht : ∀ e, comb (ix2 r e) ≠ ⊤) :
    k1_pay3 (F := Ideal) h w comb b2 (ix2 r l) = refMoe tok comb w1 b1 w2 b2 (ix2 r l) := by
  rw [moe_at, Cert.ReferenceIdeal.Stages.moe_at, Fin.sum_univ_tiles 8 512 rfl, ← Finset.sum_add_distrib]
  refine Finset.sum_congr rfl fun e _ => ?_
  rw [EReal.left_distrib_of_nonneg_of_ne_top (h0 e) (ht e), Gate.mul_sum _ (h0 e) (ht e)]
  refine congrArg (· + _) (Finset.sum_congr rfl fun f _ => ?_)
  rw [hh, hw, mul_assoc]
  simp only [mul_comm (tok _)]

variable (W : Valuation τ sig (Elt Ideal))

/-- The hidden scratch at an expert's column is that expert's own. -/
theorem hidAll_at (r : Fin 1024) (e : Fin 8) (f : Fin 512) :
    hidAll W (ix2 r ⟨e.val * 512 + f.val, by omega⟩) = hidBlk W ⟨e.val, Nat.lt_of_lt_of_eq e.isLt N_1.symm⟩ (ix2 r f) := by
  have ht : ∀ h, (⟨(e.val * 512 + f.val) / 512, h⟩ : Fin cfg1.N) = ⟨e.val, Nat.lt_of_lt_of_eq e.isLt N_1.symm⟩ :=
    fun h => Fin.ext (by show (e.val * 512 + f.val) / 512 = e.val; omega)
  unfold hidAll
  refine (congrArg (fun t => hidBlk W t _) (ht _)).trans (congrArg _ (funext fun a => ?_))
  match a with
  | ⟨0, _⟩ => rfl
  | ⟨1, _⟩ => exact Fin.ext (by show (e.val * 512 + f.val) % 512 = f.val; omega)

/-- The weight scratch at an expert's row is that expert's own. -/
theorem w2All_at (e : Fin 8) (f : Fin 512) (l : Fin 1664) :
    w2All W (ix2 ⟨e.val * 512 + f.val, by omega⟩ l) = w2Blk W ⟨e.val, Nat.lt_of_lt_of_eq e.isLt N_1.symm⟩ (ix2 f l) := by
  have ht : ∀ h, (⟨(e.val * 512 + f.val) / 512, h⟩ : Fin cfg1.N) = ⟨e.val, Nat.lt_of_lt_of_eq e.isLt N_1.symm⟩ :=
    fun h => Fin.ext (by show (e.val * 512 + f.val) / 512 = e.val; omega)
  unfold w2All
  refine (congrArg (fun t => w2Blk W t _) (ht _)).trans (congrArg _ (funext fun a => ?_))
  match a with
  | ⟨0, _⟩ => exact Fin.ext (by show (e.val * 512 + f.val) % 512 = f.val; omega)
  | ⟨1, _⟩ => rfl

/-- An expert's gated hidden layer, over the arrays. -/
theorem hidBlk_at (tok : FVec Ideal S1024x1664 .f32) (comb : FVec Ideal S1024x8 .f32) (w1 : FVec Ideal S8x1664x512 .f32) (b1 : FVec Ideal S8x512 .f32)
    (h0 : (show FVec Ideal S1024x1664 .f32 from W (Proc.devRef .tc main_v37_0)) = tok)
    (h1 : (show FVec Ideal S1024x8 .f32 from W (Proc.devRef .tc main_v37_1)) = comb)
    (h2 : (show FVec Ideal S8x1664x512 .f32 from W (Proc.devRef .tc main_arg5)) = w1)
    (h3 : ∀ e f, (show FVec Ideal S8x1x512 .f32 from W (Proc.devRef .tc main_v38)) (ix3 e 0 f) = b1 (ix2 e f))
    (r : Fin 1024) (e : Fin 8) (f : Fin 512) :
    hidBlk W ⟨e.val, Nat.lt_of_lt_of_eq e.isLt N_1.symm⟩ (ix2 r f)
      = comb (ix2 r e) * max ((∑ k : Fin 1664, tok (ix2 r k) * w1 (ix3 e k f)) + b1 (ix2 e f)) 0 := by
  subst h0 h1 h2
  refine (hid_at _ _ _ _ r f).trans ?_
  refine congrArg₂ (· * ·) ((gate_at _ _ e (expert_coord _) r f).trans (congrFun (blk1_1 W _) _))
    (congrArg₂ max (congrArg₂ (· + ·) (Finset.sum_congr rfl fun k _ => congrArg₂ (· * ·) (congrFun (blk1_0 W _) _) (blk1_2 W _ k f))
      ((blk1_3 W _ f).trans (h3 e f))) rfl)

/-- The result, over the arrays. -/
theorem res_at (tok : FVec Ideal S1024x1664 .f32) (comb : FVec Ideal S1024x8 .f32) (w1 : FVec Ideal S8x1664x512 .f32) (b1 : FVec Ideal S8x512 .f32)
    (w2 : FVec Ideal S8x512x1664 .f32) (b2 : FVec Ideal S8x1664 .f32) (wt1 : FVec Ideal S2x1664x256 .f32) (bt1 : FVec Ideal S2x256 .f32)
    (wt2 : FVec Ideal S2x256x1 .f32) (bt2 : FVec Ideal S2x1 .f32)
    (h0 : (show FVec Ideal S1024x1664 .f32 from W (Proc.devRef .tc main_v37_0)) = tok)
    (h1 : (show FVec Ideal S1024x8 .f32 from W (Proc.devRef .tc main_v37_1)) = comb)
    (h2 : (show FVec Ideal S8x1664x512 .f32 from W (Proc.devRef .tc main_arg5)) = w1)
    (h3 : ∀ e f, (show FVec Ideal S8x1x512 .f32 from W (Proc.devRef .tc main_v38)) (ix3 e 0 f) = b1 (ix2 e f))
    (h4 : (show FVec Ideal S8x512x1664 .f32 from W (Proc.devRef .tc main_arg7)) = w2)
    (h5 : (show FVec Ideal S8x1664 .f32 from W (Proc.devRef .tc main_arg8)) = b2)
    (h6 : (show FVec Ideal S2x1664x256 .f32 from W (Proc.devRef .tc main_arg9)) = wt1)
    (h7 : (show FVec Ideal S2x256 .f32 from W (Proc.devRef .tc main_arg10)) = bt1)
    (h8 : (show FVec Ideal S2x256x1 .f32 from W (Proc.devRef .tc main_arg11)) = wt2)
    (h9 : (show FVec Ideal S2x1 .f32 from W (Proc.devRef .tc main_arg12)) = bt2)
    (hc0 : ∀ r e, 0 ≤ comb (ix2 r e)) (hct : ∀ r e, comb (ix2 r e) ≠ ⊤) :
    resAll W = refOut (refMoe tok comb w1 b1 w2 b2) wt1 bt1 wt2 bt2 := by
  have f1 := (blk1_1 W t1_7).trans h1
  have f5 := (blk1_5 W t1_7).trans h5
  have f6 := (blk1_6 W t1_7).trans h6
  have f7 := (blk1_7 W t1_7).trans h7
  have f8 := (blk1_8 W t1_7).trans h8
  have f9 := (blk1_9 W t1_7).trans h9
  have key : ∀ (r : Fin 1024) (l : Fin 1664), k1_pay3 (F := Ideal) (hidAll W) (w2All W) comb b2 (ix2 r l)
      = refMoe tok comb w1 b1 w2 b2 (ix2 r l) := fun r l =>
    moe_of _ _ tok comb w1 b1 w2 b2 r l
      (fun e f => (hidAll_at W r e f).trans (hidBlk_at W tok comb w1 b1 h0 h1 h2 h3 r e f))
      (fun e f => (w2All_at W e f l).trans ((w2_at _ f l).trans ((blk1_4 W _ f l).trans (congrFun h4 _)))) (hc0 r) (hct r)
  have e : resAll W = towers (F := Ideal) (constant (F := Ideal) S1024x2 .f32 0x00000000#32) (hidAll W) (w2All W) comb b2 wt1 bt1 wt2 bt2 := by
    rw [← f1, ← f5, ← f6, ← f7, ← f8, ← f9]
    rfl
  rw [e]
  funext y
  obtain ⟨r, l, rfl⟩ : ∃ r l, y = ix2 r l := ⟨_, _, eq_ix2 y⟩
  refine (towers_at _ _ _ _ _ _ _ _ _ r l).trans ?_
  rw [Cert.ReferenceIdeal.Stages.out_at]
  simp only [key, mul_comm (refMoe _ _ _ _ _ _ _)]

end Cert.KernelIdeal.Run

end
-- ==== Proof.PI.Result.lean ====
/-
The kernel's result on real routing weights: the reference's result over the same arguments.
-/
module

public import proofs.«01_k».proof.Proof.PI.RouteValue
public import proofs.«01_k».proof.Proof.PI.MoeValue

@[expose] public section

set_option maxRecDepth 16384

noncomputable section

namespace Cert.KernelIdeal.Run

open Cert.KernelIdeal Cert.KernelIdeal.Gen Idealize.ShloMosaic Idealize.ShloMosaic.TcCoe
open Cert.ReferenceIdeal.Stages (refTok refLogit refExp refProb refTop refComb refMoe refOut)

variable (m : (ℓ : Loc nD τ sig) → Buf (Elt Ideal) ℓ) (c : Dev nD)

/-- The first region and the operation after it leave every array but their own. -/
theorem Y6_of (r : Ref sig .tc) (h : r ∉ ([main_v37_0, main_v37_1] : List (Ref sig .tc))) : Y6 m c r = V5 m c r := by
  rw [← V6_left]
  exact V6_of m (left m) c r h

/-- The operation between the regions leaves every array but its own. -/
theorem Y7_of (r : Ref sig .tc) (h : r ∉ hostOps1_W) : Y7 m c r = Y6 m c r := by
  rw [← V7_left, ← V6_left]
  exact V7_of m (left m) c r h

/-- The launch's array of an argument, before the second region. -/
theorem Y7_arg (r : Ref sig .tc) (h7 : r ∉ hostOps1_W) (h6 : r ∉ ([main_v37_0, main_v37_1] : List (Ref sig .tc)))
    (h5 : r ∉ hostOps0_4_W) (h4 : r ∉ hostOps0_3_W) (h3 : r ∉ hostOps0_2_W) (h2 : r ∉ hostOps0_1_W)
    (h1 : r ∉ hostOps0_W) : Y7 m c r = m ((c : Thread nD τ).loc r) :=
  (Y7_of m c r h7).trans <| (Y6_of m c r h6).trans <| V5_arg m c r h5 h4 h3 h2 h1

/-- The first biases, reshaped between the regions. -/
theorem Y7_bias (e : Fin 8) (f : Fin 512) : (show FVec Ideal S8x1x512 .f32 from Y7 m c (Proc.devRef .tc main_v38)) (ix3 e 0 f)
    = (show FVec Ideal S8x512 .f32 from m ((c : Thread nD τ).loc main_arg6)) (ix2 e f) := by
  have h := (Y6_of m c main_arg6 (by decide)).trans (V5_arg m c main_arg6 (by decide) (by decide) (by decide) (by decide) (by decide))
  unfold Y7
  after_results
  rw [h]
  pointwise

/-- The result array, on real embedding and router weights: the reference's experts and towers over its own tokens and
    combine weights. -/
theorem res_final (h2 : ∀ i, ∃ z : ℝ, (show FVec Ideal S26x16x64 .f32 from m ((c : Thread nD τ).loc main_arg2)) i = (z : EReal))
    (h3 : ∀ i, ∃ z : ℝ, (show FVec Ideal S26x64 .f32 from m ((c : Thread nD τ).loc main_arg3)) i = (z : EReal))
    (h4 : ∀ i, ∃ z : ℝ, (show FVec Ideal S1664x8 .f32 from m ((c : Thread nD τ).loc main_arg4)) i = (z : EReal)) :
    (show FVec Ideal S1024x2 .f32 from Y8 m c (Proc.devRef .tc main_v39))
      = refOut (refMoe (tokens m c) (gatesOf m c) (m ((c : Thread nD τ).loc main_arg5)) (m ((c : Thread nD τ).loc main_arg6))
          (m ((c : Thread nD τ).loc main_arg7)) (m ((c : Thread nD τ).loc main_arg8))) (m ((c : Thread nD τ).loc main_arg9))
          (m ((c : Thread nD τ).loc main_arg10)) (m ((c : Thread nD τ).loc main_arg11)) (m ((c : Thread nD τ).loc main_arg12)) := by
  have hx := logit_real m c h2 h3 h4
  refine (Y8_res m c).trans ((res_arr (Y7 m c) c).trans ?_)
  exact res_at (Y7 m c) _ _ _ _ _ _ _ _ _ _
    ((Y7_of m c main_v37_0 (by decide)).trans (tok_final m c))
    ((Y7_of m c main_v37_1 (by decide)).trans (comb_final m c hx))
    (Y7_arg m c main_arg5 (by decide) (by decide) (by decide) (by decide) (by decide) (by decide) (by decide))
    (Y7_bias m c)
    (Y7_arg m c main_arg7 (by decide) (by decide) (by decide) (by decide) (by decide) (by decide) (by decide))
    (Y7_arg m c main_arg8 (by decide) (by decide) (by decide) (by decide) (by decide) (by decide) (by decide))
    (Y7_arg m c main_arg9 (by decide) (by decide) (by decide) (by decide) (by decide) (by decide) (by decide))
    (Y7_arg m c main_arg10 (by decide) (by decide) (by decide) (by decide) (by decide) (by decide) (by decide))
    (Y7_arg m c main_arg11 (by decide) (by decide) (by decide) (by decide) (by decide) (by decide) (by decide))
    (Y7_arg m c main_arg12 (by decide) (by decide) (by decide) (by decide) (by decide) (by decide) (by decide))
    (fun r e => (gates_range m c hx r e).1) (fun r e => (gates_range m c hx r e).2)

end Cert.KernelIdeal.Run

end
-- ==== Proof.Algebraic.lean ====
/-
  The value claim: over the extended reals, on real embedding and router weights, the kernel and the reference end with
  equal results.
-/
module

public import proofs.«01_k».proof.Defs
public import proofs.«01_k».proof.Proof.Pre
public import proofs.«01_k».proof.Proof.PI.Result

@[expose] public section

set_option maxRecDepth 16384

noncomputable section

namespace Cert.Proof

open Idealize.ShloMosaic Idealize.ShloMosaic.TcCoe Idealize.SL.Sem

/-- The kernel's run: its result array as `Y8` has it, its arguments as launched. -/
theorem kernel_run (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r =>
      ∀ c : Dev Cert.KernelIdeal.nD, r.2.mem ((c.tc : Thread Cert.KernelIdeal.nD Cert.KernelIdeal.τ).loc Cert.KernelIdeal.main_v39)
        = Cert.KernelIdeal.Run.Y8 m c (Proc.devRef .tc Cert.KernelIdeal.main_v39)) :=
  (θ_run Cert.KernelIdeal.defs _ _).mono
    (fun r h c => h.1 c (Proc.devRef .tc Cert.KernelIdeal.main_v39) (Cert.KernelIdeal.Run.mem_uc Cert.KernelIdeal.main_v39 (by decide)))
    (Cert.KernelIdeal.Run.run_all (F := Ideal) m g)

/-- The value claim. -/
theorem algebraic : Cert.algebraic_KernelIdeal_ReferenceIdeal_pre_routing_finite := by
  intro m g m' g' hpre hargs
  refine ⟨fun c => Cert.KernelIdeal.Run.Y8 m c (Proc.devRef .tc Cert.KernelIdeal.main_v39), ?_, ?_⟩
  · refine (θ_run Cert.KernelIdeal.defs _ _).mono (fun r h c => ?_) (θ_run_and (kernel_run m g) (Cert.KernelIdeal.Run.frame (F := Ideal) m g))
    exact ⟨h.1 c, h.2.1 c⟩
  · refine (θ_run Cert.ReferenceIdeal.defs _ _).mono (fun r h c => ⟨(h c).1.trans ?_, (h c).2⟩) (Cert.ReferenceIdeal.Value.run (F := Ideal) m' g')
    obtain ⟨h2, h3, h4⟩ := Cert.Pre_routing_finite.real_of_fn _ _ _ _ _ _ _ _ _ _ _ _ _ (hpre c)
    obtain ⟨e0, e1, e2, e3, e4, e5, e6, e7, e8, e9, e10, e11, e12⟩ := hargs c
    refine (Cert.ReferenceIdeal.Stages.res_eq m' c).trans ?_
    rw [e0, e1, e2, e3, e4, e5, e6, e7, e8, e9, e10, e11, e12]
    exact (Cert.KernelIdeal.Run.res_final m c h2 h3 h4).symm

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.PI.Launch
public import proofs.«01_k».proof.Proof.P.Launch
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- Everything the certificate claims. -/
theorem claim : Cert.Claim := ⟨Cert.Kernel.Gen.facts, Cert.KernelIdeal.Gen.facts, Cert.ReferenceIdeal.Gen.facts, Cert.Pre_routing_finite.facts,
  frame_kernel, frame_kernel_ideal, frame_kernel_ideal_pre, frame_reference, frame_reference_pre, trivial, algebraic⟩

end Cert.Proof

end
